-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible_KernelIdeal [hPre_admissible_KernelIdeal : Cert.Pre_admissible_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_admissible_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible_ReferenceIdeal [hPre_admissible_ReferenceIdeal : Cert.Pre_admissible_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_admissible_KernelIdeal [hKernelIdeal : Cert.KernelIdeal.Facts] [hPre_admissible_KernelIdeal : Cert.Pre_admissible_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_admissible_ReferenceIdeal [hReferenceIdeal : Cert.ReferenceIdeal.Facts] [hPre_admissible_ReferenceIdeal : Cert.Pre_admissible_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_admissible_KernelIdeal [hKernelIdeal : Cert.KernelIdeal.Facts] [hReferenceIdeal : Cert.ReferenceIdeal.Facts] [hPre_admissible_KernelIdeal : Cert.Pre_admissible_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_admissible_KernelIdeal : Cert.Pre_admissible_KernelIdeal.Facts) (hPre_admissible_ReferenceIdeal : Cert.Pre_admissible_ReferenceIdeal.Facts),
    quiescent_Kernel (hKernel := hKernel)
    ∧ quiescent_KernelIdeal (hKernelIdeal := hKernelIdeal)
    ∧ quiescent_KernelIdeal_pre_admissible_KernelIdeal (hKernelIdeal := hKernelIdeal) (hPre_admissible_KernelIdeal := hPre_admissible_KernelIdeal)
    ∧ quiescent_ReferenceIdeal (hReferenceIdeal := hReferenceIdeal)
    ∧ quiescent_ReferenceIdeal_pre_admissible_ReferenceIdeal (hReferenceIdeal := hReferenceIdeal) (hPre_admissible_ReferenceIdeal := hPre_admissible_ReferenceIdeal)
    ∧ preserves_Kernel_KernelIdeal
    ∧ algebraic_KernelIdeal_ReferenceIdeal_pre_admissible_KernelIdeal (hKernelIdeal := hKernelIdeal) (hReferenceIdeal := hReferenceIdeal) (hPre_admissible_KernelIdeal := hPre_admissible_KernelIdeal)
-- ==== Pre_admissible_KernelIdeal.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S512x1024 : Shape := ⟨2, ![512, 1024]⟩
abbrev S_ : Shape := ⟨0, ![]⟩
abbrev S8 : Shape := ⟨1, ![8]⟩
abbrev S1x8 : Shape := ⟨2, ![1, 8]⟩
abbrev S2048x8 : Shape := ⟨2, ![2048, 8]⟩

class Facts : Prop where
  bcast_S_S2048x1 : S_.BroadcastsInDim S2048x1 (![] : Fin 0 → Fin S2048x1.rank)
  bcast_S8_S1x8_1 : S8.BroadcastsInDim S1x8 (![1] : Fin 1 → Fin S1x8.rank)
  bcast_S2048x1_S2048x8_0_1 : S2048x1.BroadcastsInDim S2048x8 (![0, 1] : Fin 2 → Fin S2048x8.rank)
  bcast_S1x8_S2048x8_0_1 : S1x8.BroadcastsInDim S2048x8 (![0, 1] : Fin 2 → Fin S2048x8.rank)
  natLt_1_32 : 1 < 32
  reducesTo_S2048x8_S8_d0 : S2048x8.ReducesTo [0] S8
  h_S_ : 0 < S_.numel
  bcast_S_S8 : S_.BroadcastsInDim S8 (![] : Fin 0 → Fin S8.rank)
  reducesTo_S8_S_d0 : S8.ReducesTo [0] S_
  bcast_S_S2048x512 : S_.BroadcastsInDim S2048x512 (![] : Fin 0 → Fin S2048x512.rank)
  reducesTo_S2048x512_S_d0_1 : S2048x512.ReducesTo [0, 1] S_
  bcast_S_S512x64 : S_.BroadcastsInDim S512x64 (![] : Fin 0 → Fin S512x64.rank)
  reducesTo_S512x64_S_d0_1 : S512x64.ReducesTo [0, 1] S_

variable [Facts]

def fn_part1 {F : FTy → Type} [FloatOps F] (main_v16 : IVec S_ 1) (main_v17 : FVec F S512x64 .bf16) : IVec S_ 1 :=
  let main_cst_4 : FVec F S_ .bf16 := constant S_ .bf16 0x7F80#16
  let main_v18 : FVec F S512x64 .bf16 := broadcastInDim S512x64 ![] bcast_S_S512x64 main_cst_4
  let main_v19 : IVec S512x64 1 := cmpf .olt main_v17 main_v18
  let main_c_5 : IVec S_ 1 := constantI S_ 1 1#1
  let main_v20 : IVec S_ 1 := (fun x v => Host.reduce IntOp.andi x v reducesTo_S512x64_S_d0_1 h_S_) main_v19 main_c_5
  let main_v21 : IVec S_ 1 := andi main_v16 main_v20
  main_v21

def fn {F : FTy → Type} [FloatOps F] (main_arg0 : FVec F S2048x512 .bf16) (main_arg1 : FVec F S512x64 .bf16) (main_arg2 : IVec S2048x1 32) (main_arg3 : FVec F S8x512x1024 .bf16) (main_arg4 : FVec F S512x1024 .bf16) : IVec S_ 1 :=
  let main_c : IVec S_ 32 := constantI S_ 32 8#32
  let main_v0 : IVec S2048x1 32 := broadcastInDim S2048x1 ![] bcast_S_S2048x1 main_c
  let main_v1 : IVec S2048x1 32 := Host.divsi main_arg2 main_v0
  let main_v2 : IVec S8 32 := iotaInDim S8 32 0
  let main_v3 : IVec S1x8 32 := broadcastInDim S1x8 ![1] bcast_S8_S1x8_1 main_v2
  let main_v4 : IVec S2048x8 32 := broadcastInDim S2048x8 ![0, 1] bcast_S2048x1_S2048x8_0_1 main_v1
  let main_v5 : IVec S2048x8 32 := broadcastInDim S2048x8 ![0, 1] bcast_S1x8_S2048x8_0_1 main_v3
  let main_v6 : IVec S2048x8 1 := cmpi .eq main_v4 main_v5
  let main_v7 : IVec S2048x8 32 := (extui 32 · natLt_1_32) main_v6
  let main_c_0 : IVec S_ 32 := constantI S_ 32 0#32
  let main_v8 : IVec S8 32 := (fun x v => Host.reduce IntOp.addi x v reducesTo_S2048x8_S8_d0 h_S_) main_v7 main_c_0
  let main_c_1 : IVec S_ 32 := constantI S_ 32 320#32
  let main_v9 : IVec S8 32 := broadcastInDim S8 ![] bcast_S_S8 main_c_1
  let main_v10 : IVec S8 1 := cmpi .sle main_v8 main_v9
  let main_c_2 : IVec S_ 1 := constantI S_ 1 1#1
  let main_v11 : IVec S_ 1 := (fun x v => Host.reduce IntOp.andi x v reducesTo_S8_S_d0 h_S_) main_v10 main_c_2
  let main_v12 : FVec F S2048x512 .bf16 := Host.absf main_arg0
  let main_cst : FVec F S_ .bf16 := constant S_ .bf16 0x7F80#16
  let main_v13 : FVec F S2048x512 .bf16 := broadcastInDim S2048x512 ![] bcast_S_S2048x512 main_cst
  let main_v14 : IVec S2048x512 1 := cmpf .olt main_v12 main_v13
  let main_c_3 : IVec S_ 1 := constantI S_ 1 1#1
  let main_v15 : IVec S_ 1 := (fun x v => Host.reduce IntOp.andi x v reducesTo_S2048x512_S_d0_1 h_S_) main_v14 main_c_3
  let main_v16 : IVec S_ 1 := andi main_v11 main_v15
  let main_v17 : FVec F S512x64 .bf16 := Host.absf main_arg1
  fn_part1 (F := F) main_v16 main_v17
-- ==== Pre_admissible_ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S512x1024 : Shape := ⟨2, ![512, 1024]⟩
abbrev S_ : Shape := ⟨0, ![]⟩
abbrev S8 : Shape := ⟨1, ![8]⟩
abbrev S1x8 : Shape := ⟨2, ![1, 8]⟩
abbrev S2048x8 : Shape := ⟨2, ![2048, 8]⟩

class Facts : Prop where
  bcast_S_S2048x1 : S_.BroadcastsInDim S2048x1 (![] : Fin 0 → Fin S2048x1.rank)
  bcast_S8_S1x8_1 : S8.BroadcastsInDim S1x8 (![1] : Fin 1 → Fin S1x8.rank)
  bcast_S2048x1_S2048x8_0_1 : S2048x1.BroadcastsInDim S2048x8 (![0, 1] : Fin 2 → Fin S2048x8.rank)
  bcast_S1x8_S2048x8_0_1 : S1x8.BroadcastsInDim S2048x8 (![0, 1] : Fin 2 → Fin S2048x8.rank)
  natLt_1_32 : 1 < 32
  reducesTo_S2048x8_S8_d0 : S2048x8.ReducesTo [0] S8
  h_S_ : 0 < S_.numel
  bcast_S_S8 : S_.BroadcastsInDim S8 (![] : Fin 0 → Fin S8.rank)
  reducesTo_S8_S_d0 : S8.ReducesTo [0] S_
  bcast_S_S2048x512 : S_.BroadcastsInDim S2048x512 (![] : Fin 0 → Fin S2048x512.rank)
  reducesTo_S2048x512_S_d0_1 : S2048x512.ReducesTo [0, 1] S_
  bcast_S_S512x64 : S_.BroadcastsInDim S512x64 (![] : Fin 0 → Fin S512x64.rank)
  reducesTo_S512x64_S_d0_1 : S512x64.ReducesTo [0, 1] S_

variable [Facts]

def fn_part1 {F : FTy → Type} [FloatOps F] (main_v16 : IVec S_ 1) (main_v17 : FVec F S512x64 .bf16) : IVec S_ 1 :=
  let main_cst_4 : FVec F S_ .bf16 := constant S_ .bf16 0x7F80#16
  let main_v18 : FVec F S512x64 .bf16 := broadcastInDim S512x64 ![] bcast_S_S512x64 main_cst_4
  let main_v19 : IVec S512x64 1 := cmpf .olt main_v17 main_v18
  let main_c_5 : IVec S_ 1 := constantI S_ 1 1#1
  let main_v20 : IVec S_ 1 := (fun x v => Host.reduce IntOp.andi x v reducesTo_S512x64_S_d0_1 h_S_) main_v19 main_c_5
  let main_v21 : IVec S_ 1 := andi main_v16 main_v20
  main_v21

def fn {F : FTy → Type} [FloatOps F] (main_arg0 : FVec F S2048x512 .bf16) (main_arg1 : FVec F S512x64 .bf16) (main_arg2 : IVec S2048x1 32) (main_arg3 : FVec F S64x512x1024 .bf16) (main_arg4 : FVec F S512x1024 .bf16) : IVec S_ 1 :=
  let main_c : IVec S_ 32 := constantI S_ 32 8#32
  let main_v0 : IVec S2048x1 32 := broadcastInDim S2048x1 ![] bcast_S_S2048x1 main_c
  let main_v1 : IVec S2048x1 32 := Host.divsi main_arg2 main_v0
  let main_v2 : IVec S8 32 := iotaInDim S8 32 0
  let main_v3 : IVec S1x8 32 := broadcastInDim S1x8 ![1] bcast_S8_S1x8_1 main_v2
  let main_v4 : IVec S2048x8 32 := broadcastInDim S2048x8 ![0, 1] bcast_S2048x1_S2048x8_0_1 main_v1
  let main_v5 : IVec S2048x8 32 := broadcastInDim S2048x8 ![0, 1] bcast_S1x8_S2048x8_0_1 main_v3
  let main_v6 : IVec S2048x8 1 := cmpi .eq main_v4 main_v5
  let main_v7 : IVec S2048x8 32 := (extui 32 · natLt_1_32) main_v6
  let main_c_0 : IVec S_ 32 := constantI S_ 32 0#32
  let main_v8 : IVec S8 32 := (fun x v => Host.reduce IntOp.addi x v reducesTo_S2048x8_S8_d0 h_S_) main_v7 main_c_0
  let main_c_1 : IVec S_ 32 := constantI S_ 32 320#32
  let main_v9 : IVec S8 32 := broadcastInDim S8 ![] bcast_S_S8 main_c_1
  let main_v10 : IVec S8 1 := cmpi .sle main_v8 main_v9
  let main_c_2 : IVec S_ 1 := constantI S_ 1 1#1
  let main_v11 : IVec S_ 1 := (fun x v => Host.reduce IntOp.andi x v reducesTo_S8_S_d0 h_S_) main_v10 main_c_2
  let main_v12 : FVec F S2048x512 .bf16 := Host.absf main_arg0
  let main_cst : FVec F S_ .bf16 := constant S_ .bf16 0x7F80#16
  let main_v13 : FVec F S2048x512 .bf16 := broadcastInDim S2048x512 ![] bcast_S_S2048x512 main_cst
  let main_v14 : IVec S2048x512 1 := cmpf .olt main_v12 main_v13
  let main_c_3 : IVec S_ 1 := constantI S_ 1 1#1
  let main_v15 : IVec S_ 1 := (fun x v => Host.reduce IntOp.andi x v reducesTo_S2048x512_S_d0_1 h_S_) main_v14 main_c_3
  let main_v16 : IVec S_ 1 := andi main_v11 main_v15
  let main_v17 : FVec F S512x64 .bf16 := Host.absf main_arg1
  fn_part1 (F := F) main_v16 main_v17
-- ==== Kernel.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S512x1024 : Shape := ⟨2, ![512, 1024]⟩
abbrev S2048x1024 : Shape := ⟨2, ![2048, 1024]⟩
abbrev S320x1024 : Shape := ⟨2, ![320, 1024]⟩
abbrev S7x320x1024 : Shape := ⟨3, ![7, 320, 1024]⟩
abbrev S7 : Shape := ⟨1, ![7]⟩
abbrev S_ : Shape := ⟨0, ![]⟩
abbrev S2048x64 : Shape := ⟨2, ![2048, 64]⟩
abbrev S2048 : Shape := ⟨1, ![2048]⟩
abbrev S1x64 : Shape := ⟨2, ![1, 64]⟩
abbrev S1x8 : Shape := ⟨2, ![1, 8]⟩
abbrev S2048x8 : Shape := ⟨2, ![2048, 8]⟩
abbrev S512x512 : Shape := ⟨2, ![512, 512]⟩
abbrev S512x8 : Shape := ⟨2, ![512, 8]⟩
abbrev S512 : Shape := ⟨1, ![512]⟩
abbrev S512x1 : Shape := ⟨2, ![512, 1]⟩
abbrev S8 : Shape := ⟨1, ![8]⟩
abbrev S1x320 : Shape := ⟨2, ![1, 320]⟩
abbrev S2048x320 : Shape := ⟨2, ![2048, 320]⟩
abbrev S320x512 : Shape := ⟨2, ![320, 512]⟩
abbrev S320x8 : Shape := ⟨2, ![320, 8]⟩
abbrev S320x1 : Shape := ⟨2, ![320, 1]⟩
abbrev S1x512x1024 : Shape := ⟨3, ![1, 512, 1024]⟩
abbrev S1 : Shape := ⟨1, ![1]⟩
abbrev S1x320x1024 : Shape := ⟨3, ![1, 320, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x1, .i32⟩
  | .hbm, ⟨3, _⟩ => ⟨S8x512x1024, .bf16⟩
  | .hbm, ⟨4, _⟩ => ⟨S512x1024, .bf16⟩
  | .hbm, ⟨5, _⟩ => ⟨S2048x1024, .f32⟩
  | .local _ .vmem, ⟨0, _⟩ => ⟨S2048x512, .bf16⟩
  | .local _ .vmem, ⟨1, _⟩ => ⟨S512x64, .bf16⟩
  | .local _ .vmem, ⟨2, _⟩ => ⟨S2048x1, .i32⟩
  | .local _ .vmem, ⟨3, _⟩ => ⟨S8x512x1024, .bf16⟩
  | .local _ .vmem, ⟨4, _⟩ => ⟨S512x1024, .bf16⟩
  | .local _ .vmem, ⟨5, _⟩ => ⟨S2048x1024, .f32⟩
  | .local _ .vmem, ⟨6, _⟩ => ⟨S320x1024, .bf16⟩
  | .local _ .vmem, ⟨7, _⟩ => ⟨S7x320x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_85 : BitVec 32 := 1#32
  let v206 : BitVec 32 := Scalar.addi v2 c1_i32_85
  let c8_i32_86 : BitVec 32 := 8#32
  let v207 : BitVec 32 := Scalar.remsi v206 c8_i32_86
  let c1_i32_90 : BitVec 32 := 1#32
  let v208 : BitVec 32 := Scalar.muli v207 c1_i32_90
  let v209 : BitVec 32 := Scalar.addi c0_i32_91 v208
  v209.toNat
def k0_dev9 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_94 : BitVec 32 := 2#32
  let v216 : BitVec 32 := Scalar.addi v2 c2_i32_94
  let c8_i32_95 : BitVec 32 := 8#32
  let v217 : BitVec 32 := Scalar.remsi v216 c8_i32_95
  let c1_i32_99 : BitVec 32 := 1#32
  let v218 : BitVec 32 := Scalar.muli v217 c1_i32_99
  let v219 : BitVec 32 := Scalar.addi c0_i32_100 v218
  v219.toNat
def k0_dev10 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_103 : BitVec 32 := 3#32
  let v226 : BitVec 32 := Scalar.addi v2 c3_i32_103
  let c8_i32_104 : BitVec 32 := 8#32
  let v227 : BitVec 32 := Scalar.remsi v226 c8_i32_104
  let c1_i32_108 : BitVec 32 := 1#32
  let v228 : BitVec 32 := Scalar.muli v227 c1_i32_108
  let v229 : BitVec 32 := Scalar.addi c0_i32_109 v228
  v229.toNat
def k0_dev11 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_112 : BitVec 32 := 4#32
  let v236 : BitVec 32 := Scalar.addi v2 c4_i32_112
  let c8_i32_113 : BitVec 32 := 8#32
  let v237 : BitVec 32 := Scalar.remsi v236 c8_i32_113
  let c1_i32_117 : BitVec 32 := 1#32
  let v238 : BitVec 32 := Scalar.muli v237 c1_i32_117
  let v239 : BitVec 32 := Scalar.addi c0_i32_118 v238
  v239.toNat
def k0_dev12 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_121 : BitVec 32 := 5#32
  let v246 : BitVec 32 := Scalar.addi v2 c5_i32_121
  let c8_i32_122 : BitVec 32 := 8#32
  let v247 : BitVec 32 := Scalar.remsi v246 c8_i32_122
  let c1_i32_126 : BitVec 32 := 1#32
  let v248 : BitVec 32 := Scalar.muli v247 c1_i32_126
  let v249 : BitVec 32 := Scalar.addi c0_i32_127 v248
  v249.toNat
def k0_dev13 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_130 : BitVec 32 := 6#32
  let v256 : BitVec 32 := Scalar.addi v2 c6_i32_130
  let c8_i32_131 : BitVec 32 := 8#32
  let v257 : BitVec 32 := Scalar.remsi v256 c8_i32_131
  let c1_i32_135 : BitVec 32 := 1#32
  let v258 : BitVec 32 := Scalar.muli v257 c1_i32_135
  let v259 : BitVec 32 := Scalar.addi c0_i32_136 v258
  v259.toNat
def k0_dev14 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_139 : BitVec 32 := 7#32
  let v266 : BitVec 32 := Scalar.addi v2 c7_i32_139
  let c8_i32_140 : BitVec 32 := 8#32
  let v267 : BitVec 32 := Scalar.remsi v266 c8_i32_140
  let c1_i32_144 : BitVec 32 := 1#32
  let v268 : BitVec 32 := Scalar.muli v267 c1_i32_144
  let v269 : BitVec 32 := Scalar.addi c0_i32_145 v268
  v269.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S512x1024 : Shape := ⟨2, ![512, 1024]⟩
abbrev S2048x64 : Shape := ⟨2, ![2048, 64]⟩
abbrev S_ : Shape := ⟨0, ![]⟩
abbrev S2048 : Shape := ⟨1, ![2048]⟩
abbrev S2048x64x1024 : Shape := ⟨3, ![2048, 64, 1024]⟩
abbrev S64 : Shape := ⟨1, ![64]⟩
abbrev S1x64 : Shape := ⟨2, ![1, 64]⟩
abbrev S2048x64x1 : Shape := ⟨3, ![2048, 64, 1]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x1, .i32⟩
  | .hbm, ⟨3, _⟩ => ⟨S64x512x1024, .bf16⟩
  | .hbm, ⟨4, _⟩ => ⟨S512x1024, .bf16⟩
  | .hbm, ⟨5, _⟩ => ⟨S2048x512, .f32⟩
  | .hbm, ⟨6, _⟩ => ⟨S512x64, .f32⟩
  | .hbm, ⟨7, _⟩ => ⟨S64x512x1024, .f32⟩
  | .hbm, ⟨8, _⟩ => ⟨S512x1024, .f32⟩
  | .hbm, ⟨9, _⟩ => ⟨S2048x64, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x64, .f32⟩
  | .hbm, ⟨20, _⟩ => ⟨S2048x64, .f32⟩
  | .hbm, ⟨21, _⟩ => ⟨S2048x64x1024, .f32⟩
  | .hbm, ⟨22, _⟩ => ⟨S64, .i32⟩
  | .hbm, ⟨23, _⟩ => ⟨S1x64, .i32⟩
  | .hbm, ⟨24, _⟩ => ⟨S2048x64, .i32⟩
  | .hbm, ⟨25, _⟩ => ⟨S2048x64, .i32⟩
  | .hbm, ⟨26, _⟩ => ⟨S2048x64, .i1⟩
  | .hbm, ⟨27, _⟩ => ⟨S2048x64x1, .i1⟩
  | .hbm, ⟨28, _⟩ => ⟨S2048x64x1, .f32⟩
  | .hbm, ⟨29, _⟩ => ⟨S2048x64x1024, .f32⟩
  | .hbm, ⟨30, _⟩ => ⟨S2048x64x1024, .f32⟩
  | .hbm, ⟨31, _⟩ => ⟨S_, .f32⟩
  | .hbm, ⟨32, _⟩ => ⟨S_, .f32⟩
  | .hbm, ⟨33, _⟩ => ⟨S2048x64x1024, .i1⟩
  | .hbm, ⟨34, _⟩ => ⟨S2048x64x1024, .f32⟩
  | .hbm, ⟨35, _⟩ => ⟨S2048x64x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Proof.Protocol.lean ====
/-
# The exchange: devices, cells, contents and the schedule

Eight devices. Device `c` raises every other device's barrier cell once, waits for seven units on its own, computes
its experts' rows (`ygAt c`, one row per token slot) and sends them to every other device: transfer `k` goes to device
`c + k + 1`, into its slot `k`. A barrier cell has seven duties, one per other device: duty `k`, paid by the device
`k + 1` after it, hands over that device's slot `k` — what transfer `k` needs. A send and a receive cell have one
duty each.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-! ## The resource algebra: the staging protocol's copy and the exchange's (duty names `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Devices -/

/-- The device transfer `k` of device `c` goes to. -/
def fwd (k : Fin 7) (c : Dev nD) : Dev nD := ⟨(c.val + (k.val + 1)) % 8, Nat.mod_lt _ (by decide)⟩
/-- The device transfer `k` into device `c` comes from. -/
def bwd (k : Fin 7) (c : Dev nD) : Dev nD := ⟨(c.val + (7 - k.val)) % 8, Nat.mod_lt _ (by decide)⟩
/-- The slot device `c` hands to the device its signal `k` goes to. -/
def opp (k : Fin 7) : Fin 7 := ⟨6 - k.val, by omega⟩

/-- Stepping back undoes stepping forward. -/
theorem bwd_fwd (k : Fin 7) (c : Dev nD) : bwd k (fwd k c) = c := by revert k c; decide
/-- Stepping forward undoes stepping back. -/
theorem fwd_bwd (k : Fin 7) (c : Dev nD) : fwd k (bwd k c) = c := by revert k c; decide
/-- Going one distance around the ring and then the opposite one comes back. -/
theorem fwd_opp_fwd (k : Fin 7) (c : Dev nD) : fwd (opp k) (fwd k c) = c := by revert k c; decide
/-- Going the opposite distance first comes back as well. -/
theorem fwd_fwd_opp (k : Fin 7) (c : Dev nD) : fwd k (fwd (opp k) c) = c := by revert k c; decide
/-- The opposite of the opposite distance is the distance itself. -/
theorem opp_opp (k : Fin 7) : opp (opp k) = k := by revert k; decide

def ring (k : Fin 7) : Dev nD ≃ Dev nD := ⟨fwd k, bwd k, bwd_fwd k, fwd_bwd k⟩
def oppE : Fin 7 ≃ Fin 7 := ⟨opp, opp, opp_opp, opp_opp⟩

theorem dev1_eq (c : Dev nD) : (⟨k0_dev1 c, k0_dev1_lt c⟩ : Dev nD) = fwd 0 c := Fin.ext (k0_dev1_eq c)
theorem dev2_eq (c : Dev nD) : (⟨k0_dev2 c, k0_dev2_lt c⟩ : Dev nD) = fwd 1 c := Fin.ext (k0_dev2_eq c)
theorem dev3_eq (c : Dev nD) : (⟨k0_dev3 c, k0_dev3_lt c⟩ : Dev nD) = fwd 2 c := Fin.ext (k0_dev3_eq c)
theorem dev4_eq (c : Dev nD) : (⟨k0_dev4 c, k0_dev4_lt c⟩ : Dev nD) = fwd 3 c := Fin.ext (k0_dev4_eq c)
theorem dev5_eq (c : Dev nD) : (⟨k0_dev5 c, k0_dev5_lt c⟩ : Dev nD) = fwd 4 c := Fin.ext (k0_dev5_eq c)
theorem dev6_eq (c : Dev nD) : (⟨k0_dev6 c, k0_dev6_lt c⟩ : Dev nD) = fwd 5 c := Fin.ext (k0_dev6_eq c)
theorem dev7_eq (c : Dev nD) : (⟨k0_dev7 c, k0_dev7_lt c⟩ : Dev nD) = fwd 6 c := Fin.ext (k0_dev7_eq c)
theorem dev8_eq (c : Dev nD) : (⟨k0_dev8 c, k0_dev8_lt c⟩ : Dev nD) = fwd 0 c := Fin.ext (k0_dev8_eq c)
theorem dev9_eq (c : Dev nD) : (⟨k0_dev9 c, k0_dev9_lt c⟩ : Dev nD) = fwd 1 c := Fin.ext (k0_dev9_eq c)
theorem dev10_eq (c : Dev nD) : (⟨k0_dev10 c, k0_dev10_lt c⟩ : Dev nD) = fwd 2 c := Fin.ext (k0_dev10_eq c)
theorem dev11_eq (c : Dev nD) : (⟨k0_dev11 c, k0_dev11_lt c⟩ : Dev nD) = fwd 3 c := Fin.ext (k0_dev11_eq c)
theorem dev12_eq (c : Dev nD) : (⟨k0_dev12 c, k0_dev12_lt c⟩ : Dev nD) = fwd 4 c := Fin.ext (k0_dev12_eq c)
theorem dev13_eq (c : Dev nD) : (⟨k0_dev13 c, k0_dev13_lt c⟩ : Dev nD) = fwd 5 c := Fin.ext (k0_dev13_eq c)
theorem dev14_eq (c : Dev nD) : (⟨k0_dev14 c, k0_dev14_lt c⟩ : Dev nD) = fwd 6 c := Fin.ext (k0_dev14_eq c)

/-! ## The memrefs and cells -/

abbrev xM : Memref sig .tc .vmem S2048x512 .bf16 := Memref.whole cc0_stg0_0
abbrev rwM : Memref sig .tc .vmem S512x64 .bf16 := Memref.whole cc0_stg1_0
abbrev ixM : Memref sig .tc .vmem S2048x1 .i32 := Memref.whole cc0_stg2_0
abbrev ewM : Memref sig .tc .vmem S8x512x1024 .bf16 := Memref.whole cc0_stg3_0
abbrev swM : Memref sig .tc .vmem S512x1024 .bf16 := Memref.whole cc0_stg4_0
abbrev oM : Memref sig .tc .vmem S2048x1024 .f32 := Memref.whole cc0_stg5_0
/-- The rows a device sends. -/
abbrev gM : Memref sig .tc .vmem S320x1024 .bf16 := Memref.whole cc0_scratch0
/-- The seven slots it receives into. -/
abbrev rM : Memref sig .tc .vmem S7x320x1024 .bf16 := Memref.whole cc0_scratch1

/-- Every slot lies inside the receive buffer. -/
theorem inb_slot (k : Fin 7) : ∀ a, (![k.val, 0, 0] : Fin 3 → Nat) a + S1x320x1024.size a ≤ S7x320x1024.size a := by
  revert k; decide
abbrev rSlot (k : Fin 7) : Rect S7x320x1024 := Rect.unit (s := S7x320x1024) ![k.val, 0, 0] S1x320x1024.size (inb_slot k)
abbrev slotM (k : Fin 7) : Memref sig .tc .vmem S320x1024 .bf16 :=
  (rM.slice (rSlot k) (fun _ => rfl)).squeeze S320x1024 squeezes_S1x320x1024_S320x1024

/-- The runtime's barrier semaphore; transfer `k`'s send and receive semaphores. -/
abbrev barS : Sem sig := (SemArray.scalar (sig.barrier 0 rfl) : Sems sig S_).sem
def sendS (k : Fin 7) : DmaSem sig := (⟨6 + k.val, by omega⟩ : Fin 20)
def recvS (k : Fin 7) : DmaSem sig := (⟨13 + k.val, by omega⟩ : Fin 20)

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- The kernel's own fourteen semaphores: send, then receive. -/
def osem (i : Fin 14) : SemLoc sig := .dma (⟨6 + i.val, by omega⟩ : Fin 20)
/-- All fifteen: the barrier, then those. -/
def csem (i : Fin 15) : SemLoc sig := if i.val = 0 then .reg barS else .dma (⟨5 + i.val, by omega⟩ : Fin 20)
abbrev kcell (ck : Dev nD × Fin 15) : GSem nD τ sig := ((ck.1 : Thread nD τ), csem ck.2)

def iS (k : Fin 7) : Fin 15 := ⟨k.val + 1, by omega⟩
def iR (k : Fin 7) : Fin 15 := ⟨k.val + 8, by omega⟩
/-- Cell 0 is the barrier's. -/
theorem csem_bar : csem 0 = .reg barS := rfl
/-- The send cells, by their numbers. -/
theorem csem_send (k : Fin 7) : csem (iS k) = .dma (sendS k) := by revert k; decide
/-- The receive cells, by their numbers. -/
theorem csem_recv (k : Fin 7) : csem (iR k) = .dma (recvS k) := by revert k; decide

abbrev N : ℕ := (gM : Memref sig .tc .vmem S320x1024 .bf16).view.dmaCredit
/-- A copy credits its semaphores with something. -/
theorem N_pos : 0 < N := View.dmaCredit_pos _ (by decide)
/-- A slot's credit is that of the whole block sent. -/
theorem N_slot (k : Fin 7) : (slotM k).view.dmaCredit = N := rfl

/-! ## Contents -/

def xA (c : Dev nD) : (cc0_stg0_0 : Ref sig .tc).ty.Contents (Elt F) :=
  (win0_0.blk (0 : Fin 1)).view.read (Elt F) ((s₀ m ρ).mem ((c : Thread nD τ).loc main_arg0))
def rwA (c : Dev nD) : (cc0_stg1_0 : Ref sig .tc).ty.Contents (Elt F) :=
  (win0_1.blk (0 : Fin 1)).view.read (Elt F) ((s₀ m ρ).mem ((c : Thread nD τ).loc main_arg1))
def ixA (c : Dev nD) : (cc0_stg2_0 : Ref sig .tc).ty.Contents (Elt F) :=
  (win0_2.blk (0 : Fin 1)).view.read (Elt F) ((s₀ m ρ).mem ((c : Thread nD τ).loc main_arg2))
def ewA (c : Dev nD) : (cc0_stg3_0 : Ref sig .tc).ty.Contents (Elt F) :=
  (win0_3.blk (0 : Fin 1)).view.read (Elt F) ((s₀ m ρ).mem ((c : Thread nD τ).loc main_arg3))
def swA (c : Dev nD) : (cc0_stg4_0 : Ref sig .tc).ty.Contents (Elt F) :=
  (win0_4.blk (0 : Fin 1)).view.read (Elt F) ((s₀ m ρ).mem ((c : Thread nD τ).loc main_arg4))

/-! ### What the body computes, from a device's inputs -/

/-- The device's number as the body's word. -/
def devW (c : Dev nD) : BitVec 32 := Scalar.remsi (Scalar.divsi (Dev.word c) 1#32) 8#32

section Pure
variable (v2 : BitVec 32) (x : Vec F S2048x512 .bf16) (rw : Vec F S512x64 .bf16) (ix : Vec F S2048x1 .i32)

/-- Each token's owner: its expert number divided by eight. -/
def ownerV (ix : Vec F S2048x1 .i32) : IVec S2048x1 32 := k0_pay3 (F := F) ix
def wtsV : FVec F S2048x8 .f32 := k0_pay4 (k0_pay1 ix) (k0_pay2 x rw ix) (Scalar.muli v2 8#32)
/-- Each token's place among the tokens of its owner. -/
def rankV (ix : Vec F S2048x1 .i32) : IVec S2048x1 32 :=
  k0_pay16 (k0_pay5 (F := F) (ownerV ix)) k0_pay6 (k0_pay9 (ownerV ix)) (k0_pay12 (ownerV ix)) (k0_pay13 (ownerV ix)) (k0_pay14 (ownerV ix)) (k0_pay15 (ownerV ix))
def selV (ix : Vec F S2048x1 .i32) : FVec F S2048x320 .bf16 :=
  k0_pay18 v2 (ownerV ix) (k0_pay5 (F := F) (ownerV ix)) k0_pay6 (k0_pay9 (ownerV ix)) (k0_pay12 (ownerV ix)) (k0_pay13 (ownerV ix)) (k0_pay14 (ownerV ix)) (k0_pay15 (ownerV ix))
def xgV : FVec F S320x512 .bf16 :=
  k0_pay19 v2 (ownerV ix) (k0_pay5 (F := F) (ownerV ix)) k0_pay6 (k0_pay9 (ownerV ix)) (k0_pay12 (ownerV ix)) (k0_pay13 (ownerV ix)) (k0_pay14 (ownerV ix)) (k0_pay15 (ownerV ix)) x
def wgV : FVec F S320x8 .f32 :=
  k0_pay20 v2 (ownerV ix) (wtsV v2 x rw ix) (k0_pay5 (F := F) (ownerV ix)) k0_pay6 (k0_pay9 (ownerV ix)) (k0_pay12 (ownerV ix)) (k0_pay13 (ownerV ix)) (k0_pay14 (ownerV ix)) (k0_pay15 (ownerV ix))

/-- Every expert's matrix lies inside the device's weights. -/
theorem inb_ew (j : Fin 8) : ∀ a, (![j.val, 0, 0] : Fin 3 → Nat) a + S1x512x1024.size a ≤ S8x512x1024.size a := by
  revert j; decide
/-- Expert `j`'s matrix of the device's eight, as loaded. -/
def ewAt (j : Fin 8) (ew : Vec F S8x512x1024 .bf16) : Vec F S1x512x1024 .bf16 :=
  (ewM : Memref sig .tc .vmem S8x512x1024 .bf16).view.readAt (Elt F) (Rect.unit (s := S8x512x1024) ![j.val, 0, 0] S1x512x1024.size (inb_ew j)).toLoadRect ew

def y01V (ew : Vec F S8x512x1024 .bf16) : FVec F S320x1024 .f32 :=
  k0_pay21 v2 (ownerV ix) (wtsV v2 x rw ix) (k0_pay5 (F := F) (ownerV ix)) k0_pay6 (k0_pay9 (ownerV ix)) (k0_pay12 (ownerV ix)) (k0_pay13 (ownerV ix)) (k0_pay14 (ownerV ix)) (k0_pay15 (ownerV ix)) x (ewAt 0 ew)
def y1V (ew : Vec F S8x512x1024 .bf16) : FVec F S320x1024 .f32 :=
  k0_pay22 v2 (ownerV ix) (wtsV v2 x rw ix) (k0_pay5 (F := F) (ownerV ix)) k0_pay6 (k0_pay9 (ownerV ix)) (k0_pay12 (ownerV ix)) (k0_pay13 (ownerV ix)) (k0_pay14 (ownerV ix)) (k0_pay15 (ownerV ix)) x (ewAt 1 ew)
def y5V (ew : Vec F S8x512x1024 .bf16) : FVec F S320x1024 .f32 :=
  k0_pay23 (xgV v2 x ix) (wgV v2 x rw ix) (y01V v2 x rw ix ew) (y1V v2 x rw ix ew) (ewAt 2 ew) (ewAt 3 ew) (ewAt 4 ew) (ewAt 5 ew)
def y6V (ew : Vec F S8x512x1024 .bf16) : FVec F S320x1024 .f32 := k0_pay24 (xgV v2 x ix) (wgV v2 x rw ix) (ewAt 6 ew)
/-- The rows of the device's experts as the body keeps them … -/
def ygV (ew : Vec F S8x512x1024 .bf16) : FVec F S320x1024 .bf16 :=
  k0_pay25 (xgV v2 x ix) (wgV v2 x rw ix) (y5V v2 x rw ix ew) (y6V v2 x rw ix ew) (ewAt 7 ew)
/-- … and as it stores and sends them. -/
def sentV (ew : Vec F S8x512x1024 .bf16) : FVec F S320x1024 .bf16 :=
  k0_pay26 (xgV v2 x ix) (wgV v2 x rw ix) (y5V v2 x rw ix ew) (y6V v2 x rw ix ew) (ewAt 7 ew)
/-- The result before any received rows are added. -/
def out0V (ew : Vec F S8x512x1024 .bf16) (sw : Vec F S512x1024 .bf16) : FVec F S2048x1024 .f32 :=
  k0_pay27 (k0_pay17 x) (selV v2 ix) (ygV v2 x rw ix ew) sw

/-- The tokens of device `v` in their slots. -/
def selW (v : BitVec 32) (ix : Vec F S2048x1 .i32) : FVec F S2048x320 .bf16 :=
  truncf .bf16 (sitofp (F := F) .f32 (extui 32 (andi
    (cmpi .eq (broadcastTo S2048x320 (rankV (F := F) ix) broadcasts_S2048x1_S2048x320) (broadcastTo S2048x320 (iota .tc S1x320 32 [1] iota_S1x320_d1_w32) broadcasts_S1x320_S2048x320))
    (broadcastTo S2048x320 (cmpi .eq (ownerV (F := F) ix) (broadcast S2048x1 v)) broadcasts_S2048x1_S2048x320)) natLt_1_32)) bitsLt_bf16_f32

/-- The device the rows in slot `k` come from, as the body's word. -/
def srcW (k : Fin 7) : BitVec 32 := Scalar.remsi (Scalar.subi (Scalar.addi v2 8#32) (BitVec.ofNat 32 (k.val + 1))) 8#32

/-- One received block added to the result. -/
def stepV (k : Fin 7) (o : Vec F S2048x1024 .f32) (slot : Vec F S1x320x1024 .bf16) : Vec F S2048x1024 .f32 :=
  addf (shapeCast S2048x1024 o shapeCasts_S2048x1024_S2048x1024)
    (matmul dot_S2048x320_S320x1024_S2048x1024_1_0_0_1_n_n none (selW (srcW v2 k) ix) (shapeCast S320x1024 slot shapeCasts_S1x320x1024_S320x1024) (constant S2048x1024 .f32 0x00000000#32))

end Pure

/-- The rows device `c` sends. -/
def ygAt (c : Dev nD) : (cc0_scratch0 : Ref sig .tc).ty.Contents (Elt F) :=
  sentV (devW c) (xA m ρ c) (rwA m ρ c) (ixA m ρ c) (ewA m ρ c)

/-- Slot `k` of device `c` after its transfer: the rows of the device it comes from, over anything. -/
def landed (c : Dev nD) (k : Fin 7) : Buf (Elt F) ((slotM k).view.loc (c : Thread nD τ)) :=
  (slotM k).view.write (Elt F) (m ((c : Thread nD τ).loc cc0_scratch1)) (ygAt m ρ (bwd k c)) Finset.univ

/-- Slot `k` as loaded. -/
def slotRd (c : Dev nD) (k : Fin 7) : Vec F S1x320x1024 .bf16 :=
  (rM : Memref sig .tc .vmem S7x320x1024 .bf16).view.readAt (Elt F) (rSlot k).toLoadRect (landed m ρ c k)

/-- The result on device `c` after `n` received blocks. -/
def outN (c : Dev nD) : ℕ → (cc0_stg5_0 : Ref sig .tc).ty.Contents (Elt F)
  | 0 => out0V (devW c) (xA m ρ c) (rwA m ρ c) (ixA m ρ c) (ewA m ρ c) (swA m ρ c)
  | n + 1 => if h : n < 7 then stepV (devW c) (ixA m ρ c) ⟨n, h⟩ (outN c n) (slotRd m ρ c ⟨n, h⟩) else outN c n

/-- The kernel's result on device `c`. -/
def outAt (c : Dev nD) : (cc0_stg5_0 : Ref sig .tc).ty.Contents (Elt F) := outN m ρ c 7

/-! ### The buffers held -/

def slotPts (c : Dev nD) (k : Fin 7) (f : Buf (Elt F) ((slotM k).view.loc (c : Thread nD τ))) : sProp 𝕄 :=
  (slotM k).view.loc (c : Thread nD τ) ↦[(slotM k).view.set]{fullShare} f
def sentPts (c : Dev nD) (k : Fin 7) : sProp 𝕄 :=
  (gM : Memref sig .tc .vmem S320x1024 .bf16).view.loc (c : Thread nD τ) ↦[(gM : Memref sig .tc .vmem S320x1024 .bf16).view.set]{shareTok fullShare 7 k} ygAt m ρ c

omit [FloatOps F] in
instance slotPts_storable (c : Dev nD) (k) (f) : BI.Storable (upEmb : UEmb _ 𝕄) (slotPts (F := F) c k f) := by unfold slotPts; infer_instance
instance sentPts_storable (c : Dev nD) (k) : BI.Storable (upEmb : UEmb _ 𝕄) (sentPts (F := F) m ρ c k) := by unfold sentPts; infer_instance

/-- What lands in slot `k` does not depend on what was there. -/
theorem slotPts_landed (c : Dev nD) (k : Fin 7) (fd : Buf (Elt F) ((slotM k).view.loc (c : Thread nD τ))) :
    slotPts (F := F) c k ((slotM k).view.write (Elt F) fd (ygAt m ρ (bwd k c)) Finset.univ) = slotPts c k (landed m ρ c k) := by
  unfold slotPts landed
  refine pointsTo_congr fun i hi => ?_
  obtain ⟨z, -, rfl⟩ := Finset.mem_map.mp hi
  rw [View.write_emb_of_mem (h := Finset.mem_univ _), View.write_emb_of_mem (h := Finset.mem_univ _)]

/-! ## The schedule -/

def barPay (c : Dev nD) (k : Fin 7) : sProp 𝕄 := iprop((∃ f, slotPts (fwd k c) k f) ∗ reached ER (recvCell (fwd k c) k) 0)
def recvPay (c : Dev nD) (k : Fin 7) : sProp 𝕄 := slotPts c k (landed m ρ c k)
def sendPay (c : Dev nD) (k : Fin 7) : sProp 𝕄 := sentPts m ρ c k

/-- What duty `d` of cell `sm` of device `c` hands over. -/
def payOf (c : Dev nD) (sm : SemLoc sig) (d : Fin 7) : sProp 𝕄 := match sm with
  | .reg _ => barPay c d
  | .dma q => if h : 13 ≤ q.val ∧ q.val < 20 then recvPay m ρ c ⟨q.val - 13, by omega⟩
      else if h : 6 ≤ q.val ∧ q.val < 13 then sendPay m ρ c ⟨q.val - 6, by omega⟩ else iprop(emp)
def amtOf (sm : SemLoc sig) : ℕ := match sm with | .reg _ => 1 | .dma _ => N
def dutiesOf (sm : SemLoc sig) : Finset (Fin 7) := match sm with
  | .reg s => if s = barS then Finset.univ else ∅
  | .dma q => if 6 ≤ q.val then {0} else ∅

/-- One round, round 0. -/
def ringRd : Rounds.Schedule (GSem nD τ sig) (Fin 7) 𝕄 where
  duties g r := if r = 0 ∧ g.1.2 = .tc then dutiesOf g.2 else ∅
  unitless _ := False
  amount g _ _ := amtOf g.2
  payload g _ d := payOf m ρ g.1.1 g.2 d
  amount_pos g _ _ _ := by
    rcases g with ⟨t, sm⟩
    cases sm
    · exact Nat.one_pos
    · exact N_pos

instance ringRd_payload_storable (g : GSem nD τ sig) (r : ℕ) (d : Fin 7) :
    BI.Storable (upEmb : UEmb _ 𝕄) ((ringRd (F := F) m ρ).payload g r d) := by
  rcases g with ⟨t, sm⟩
  show BI.Storable upEmb (payOf m ρ t.1 sm d)
  cases sm
  · show BI.Storable upEmb (barPay t.1 d); unfold barPay; infer_instance
  · unfold payOf recvPay sendPay
    dsimp only
    (repeat' split) <;> infer_instance

section Sched
variable (c : Dev nD) (k : Fin 7)

/-- Seven signals reach a barrier cell. -/
theorem duties_bar : (ringRd (F := F) m ρ).duties (barCell c) 0 = Finset.univ := by
  dsimp only [ringRd]; rw [if_pos ⟨rfl, rfl⟩]; show (if barS = barS then (Finset.univ : Finset (Fin 7)) else ∅) = _; exact if_pos rfl
/-- One credit reaches a send cell. -/
theorem duties_send : (ringRd (F := F) m ρ).duties (sendCell c k) 0 = {0} := by
  dsimp only [ringRd]; rw [if_pos ⟨rfl, rfl⟩]; exact if_pos (Nat.le_add_right 6 k.val)
/-- One credit reaches a receive cell. -/
theorem duties_recv : (ringRd (F := F) m ρ).duties (recvCell c k) 0 = {0} := by
  dsimp only [ringRd]; rw [if_pos ⟨rfl, rfl⟩]; exact if_pos (show 6 ≤ 13 + k.val by omega)
/-- Nothing is due in later rounds. -/
theorem duties_later (g : GSem nD τ sig) : ∀ r, 1 ≤ r → (ringRd (F := F) m ρ).duties g r = ∅ :=
  fun r hr => by dsimp only [ringRd]; rw [if_neg fun h => by omega]

/-- A signal adds one. -/
theorem amount_bar (d : Fin 7) : (ringRd (F := F) m ρ).amount (barCell c) 0 d = 1 := rfl
/-- A copy adds its credit. -/
theorem amount_dma (q : DmaSem sig) (d : Fin 7) : (ringRd (F := F) m ρ).amount ((c : Thread nD τ), .dma q) 0 d = N := rfl

/-- A barrier cell is waited on for seven. -/
theorem expect_bar : (ringRd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
/-- A send cell is waited on for one copy's credit. -/
theorem expect_send : (ringRd (F := F) m ρ).expect (sendCell c k) 0 = N := by
  unfold Schedule.expect Schedule.amountOf; rw [duties_send, Finset.sum_singleton, amount_dma]
/-- A receive cell is waited on for one copy's credit. -/
theorem expect_recv : (ringRd (F := F) m ρ).expect (recvCell c k) 0 = N := by
  unfold Schedule.expect Schedule.amountOf; rw [duties_recv, Finset.sum_singleton, amount_dma]

/-- What a signal hands over. -/
theorem payload_bar (d : Fin 7) : (ringRd (F := F) m ρ).payload (barCell c) 0 d = barPay c d := rfl
/-- What a finished send hands back. -/
theorem payload_send (d : Fin 7) : (ringRd (F := F) m ρ).payload (sendCell c k) 0 d = sendPay m ρ c k := by
  show payOf m ρ c (.dma (sendS k)) d = _
  unfold payOf; dsimp only
  rw [dif_neg (show ¬(13 ≤ (sendS k).val ∧ (sendS k).val < 20) from fun h => by have : 13 ≤ 6 + k.val := h.1; omega), dif_pos (show 6 ≤ (sendS k).val ∧ (sendS k).val < 13 from ⟨show 6 ≤ 6 + k.val by omega, show 6 + k.val < 13 by omega⟩)]
  exact congrArg (sendPay m ρ c) (Fin.ext (show 6 + k.val - 6 = k.val by omega))
/-- What an arrival hands over. -/
theorem payload_recv (d : Fin 7) : (ringRd (F := F) m ρ).payload (recvCell c k) 0 d = recvPay m ρ c k := by
  show payOf m ρ c (.dma (recvS k)) d = _
  unfold payOf; dsimp only
  rw [dif_pos (show 13 ≤ (recvS k).val ∧ (recvS k).val < 20 from ⟨show 13 ≤ 13 + k.val by omega, show 13 + k.val < 20 by omega⟩)]
  exact congrArg (recvPay m ρ c) (Fin.ext (show 13 + k.val - 13 = k.val by omega))

/-- What the whole wait on the barrier yields. -/
theorem rest_bar : bigSep ((ringRd (F := F) m ρ).duties (barCell c) 0 \ ∅) (fun d => (ringRd (F := F) m ρ).payload (barCell c) 0 d)
    = bigSep Finset.univ fun d : Fin 7 => barPay c d := by
  rw [Finset.sdiff_empty, duties_bar]; rfl
/-- What the wait on a send cell yields. -/
theorem rest_send : bigSep ((ringRd (F := F) m ρ).duties (sendCell c k) 0 \ ∅) (fun d => (ringRd (F := F) m ρ).payload (sendCell c k) 0 d) = sendPay m ρ c k := by
  rw [Finset.sdiff_empty, duties_send, bigSep_singleton, payload_send]
/-- What the wait on a receive cell yields. -/
theorem rest_recv : bigSep ((ringRd (F := F) m ρ).duties (recvCell c k) 0 \ ∅) (fun d => (ringRd (F := F) m ρ).payload (recvCell c k) 0 d) = recvPay m ρ c k := by
  rw [Finset.sdiff_empty, duties_recv, bigSep_singleton, payload_recv]

end Sched

/-! ## What each device owes at launch; the levels -/

def fromK (n : ℕ) : Finset (Fin 7) := Finset.univ.filter fun k => n ≤ k.val
/-- The steps from `k` on are step `k` and the later ones. -/
theorem fromK_peel (k : Fin 7) : fromK k.val = insert k (fromK (k.val + 1)) := by revert k; decide
/-- Step `k` is not among the later ones. -/
theorem not_mem_fromK (k : Fin 7) : k ∉ fromK (k.val + 1) := by revert k; decide
/-- From step 0 on there are all of them. -/
theorem fromK_zero : fromK 0 = Finset.univ := by decide
/-- From step 7 on there is none. -/
theorem fromK_seven : fromK 7 = ∅ := by decide

/-- What device `c` owes from its transfers `n, n + 1, …`: each target's receive cell the block's credit; -/
def oweSnd (c : Dev nD) (n : ℕ) : CellTallies nD τ sig Unit := ∑ k ∈ fromK n, tallyAt (recvCell (fwd k c) k) () N
/-- and from its signals `n, n + 1, …` besides all its transfers: each target's barrier cell a unit. -/
def oweSig (c : Dev nD) (n : ℕ) : CellTallies nD τ sig Unit := oweSnd c 0 + ∑ k ∈ fromK n, tallyAt (barCell (fwd k c)) () 1
def O₀ (c : Dev nD) : CellTallies nD τ sig Unit := oweSig c 0

/-- Copy `k` pays one part of what is owed. -/
theorem oweSnd_peel (c : Dev nD) (k : Fin 7) : oweSnd c k.val = oweSnd c (k.val + 1) + tallyAt (recvCell (fwd k c) k) () N := by
  unfold oweSnd; rw [fromK_peel, Finset.sum_insert (not_mem_fromK k), add_comm]
/-- Signal `k` pays one part of what is owed. -/
theorem oweSig_peel (c : Dev nD) (k : Fin 7) : oweSig c k.val = oweSig c (k.val + 1) + tallyAt (barCell (fwd k c)) () 1 := by
  unfold oweSig; rw [fromK_peel, Finset.sum_insert (not_mem_fromK k), add_assoc, add_comm (tallyAt (barCell (fwd k c)) () 1)]
/-- After the signals the copies are still owed. -/
theorem oweSig_seven (c : Dev nD) : oweSig c 7 = oweSnd c 0 := by
  unfold oweSig; rw [fromK_seven, Finset.sum_empty, add_zero]
/-- After the copies nothing is owed. -/
theorem oweSnd_seven (c : Dev nD) : oweSnd c 7 = 0 := by unfold oweSnd; rw [fromK_seven, Finset.sum_empty]

def L (g : GSem nD τ sig) : Finset Unit := if g.1.2 = .tc then {()} else ∅
def lvOf (sm : SemLoc sig) : ℕ := match sm with | .reg _ => 1 | .dma q => if 13 ≤ q.val then 2 else 0
/-- barrier cells at 1, receive cells at 2, everything else (staging, send) at 0. -/
def lv (g : GSem nD τ sig) (_ : Unit) : ℕ := lvOf g.2

/-- No cell outside the cores has a level. -/
theorem L_of_ne (g : GSem nD τ sig) (h : g.1.2 ≠ .tc) : L g = ∅ := if_neg h
/-- Every cell of a core has one. -/
theorem L_tc (c : Dev nD) (sm : SemLoc sig) : L ((c : Thread nD τ), sm) = {()} := if_pos rfl
/-- Receive cells have level 2. -/
theorem lv_recv (c : Dev nD) (k : Fin 7) (u : Unit) : lv (recvCell c k) u = 2 := by
  show (if 13 ≤ 13 + k.val then 2 else 0) = 2; exact if_pos (Nat.le_add_right _ _)
/-- Barrier cells have level 1. -/
theorem lv_bar (c : Dev nD) (u : Unit) : lv (barCell c) u = 1 := rfl

/-- A sum of tallies, at one cell. -/
theorem sum_tally_apply {ι : Type} (s : Finset ι) (f : ι → CellTallies nD τ sig Unit) (g : GSem nD τ sig) (u : Unit) :
    (∑ k ∈ s, f k) g u = ∑ k ∈ s, f k g u := by
  rw [Finset.sum_apply, Finsupp.finset_sum_apply]

/-- The copies owe only to receive cells. -/
theorem oweSnd_pos {c : Dev nD} {n : ℕ} {g : GSem nD τ sig} {u : Unit} (h : 0 < oweSnd c n g u) : ∃ k, g = recvCell (fwd k c) k := by
  unfold oweSnd at h
  rw [sum_tally_apply] at h
  obtain ⟨k, -, hk⟩ := Finset.exists_ne_zero_of_sum_ne_zero (Nat.pos_iff_ne_zero.mp h)
  rw [tallyAt_apply] at hk
  by_contra hn
  exact hk (if_neg fun h' => hn ⟨k, h'.1⟩)

/-- At the start only receive and barrier cells are owed to. -/
theorem O₀_pos {c : Dev nD} {g : GSem nD τ sig} {u : Unit} (h : 0 < O₀ c g u) :
    (∃ k, g = recvCell (fwd k c) k) ∨ ∃ k, g = barCell (fwd k c) := by
  unfold O₀ oweSig at h
  rw [Pi.add_apply, Finsupp.add_apply, sum_tally_apply] at h
  rcases Nat.eq_zero_or_pos (oweSnd c 0 g u) with h0 | h0
  · rw [h0, Nat.zero_add] at h
    obtain ⟨k, -, hk⟩ := Finset.exists_ne_zero_of_sum_ne_zero (Nat.pos_iff_ne_zero.mp h)
    rw [tallyAt_apply] at hk
    by_contra hn
    rw [not_or] at hn
    exact hk (if_neg fun h' => hn.2 ⟨k, h'.1⟩)
  · exact .inl (oweSnd_pos h0)

/-- A device may wait on its own staging and send semaphores, owing everything or nothing. -/
theorem mayWait_stage (c : Dev nD) (q : DmaSem sig) (hq : q.val < 13) (O : CellTallies nD τ sig Unit) (hO : O = O₀ c ∨ O = 0) :
    (levAts L lv : sProp 𝕄) ⊢ MayWait (c : Thread nD τ) (.dma q) () O := by
  have hl : ∀ p : SemLoc sig × Unit, p ∈ ({(.dma q, ())} : Finset _) → lv ((c : Thread nD τ), p.1) p.2 = 0 := fun p hp => by
    rw [Finset.mem_singleton.mp hp]; show (if 13 ≤ q.val then 2 else 0) = 0; exact if_neg (by omega)
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => le_of_eq (hl p hp))
      (fun g u hg => by
        rcases O₀_pos hg with ⟨k, rfl⟩ | ⟨k, rfl⟩
        · rw [lv_recv]; decide
        · rw [lv_bar]; decide)
  · rw [MayWait_zero]; iintro -; iempintro

/-- At its barrier wait a device owes receive credits only: receive cells, above its barrier cell. -/
theorem mayWait_bar (c : Dev nD) :
    (levAts L lv : sProp 𝕄) ⊢ MayWait (c : Thread nD τ) (.reg barS) () (oweSnd c 0) :=
  MayOwe.of_cut (L := L) (lev := lv) 1 (fun p hp => by rw [Finset.mem_singleton.mp hp, L_tc]; exact Finset.mem_singleton_self _)
    (fun g u hg => by obtain ⟨k, rfl⟩ := oweSnd_pos hg; exact Finset.mem_singleton_self _)
    (fun p hp => by rw [Finset.mem_singleton.mp hp]; exact le_refl 1)
    (fun g u hg => by obtain ⟨k, rfl⟩ := oweSnd_pos hg; rw [lv_recv]; decide)

end Cert.Moe

end
-- ==== Proof.Steps.lean ====
/-
# One step of the exchange at a time

Each lemma takes one of a device's seven signals, transfers, receives or send waits. What a device holds between two
steps is one family over the seven transfers, each in the state before or after its step (`phase`).
-/
module

public import proofs.«01_k».proof.Proof.Protocol

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Families in phases -/

section Phase

/-- Transfers before `n` in state `B`, the others in state `A`. -/
def phase (A B : Fin 7 → sProp 𝕄) (n : ℕ) : sProp 𝕄 := bigSep Finset.univ fun k : Fin 7 => if n ≤ k.val then A k else B k

omit [FloatOps F] in
/-- Before the first step every step is still to be taken. -/
theorem phase_zero (A B : Fin 7 → sProp 𝕄) : phase A B 0 = bigSep Finset.univ A := bigSep_congr fun k _ => if_pos (Nat.zero_le _)
omit [FloatOps F] in
/-- After the last step every step has been taken. -/
theorem phase_seven (A B : Fin 7 → sProp 𝕄) : phase A B 7 = bigSep Finset.univ B := bigSep_congr fun k _ => if_neg (by omega)
omit [FloatOps F] in
/-- One step takes what it needs and leaves what it made. -/
theorem phase_step (A B : Fin 7 → sProp 𝕄) (i : Fin 7) : phase A B i.val ⊢ iprop(A i ∗ (B i -∗ phase A B (i.val + 1))) := by
  unfold phase
  rw [bigSep_univ_at _ i, bigSep_univ_at (fun k : Fin 7 => if i.val + 1 ≤ k.val then A k else B k) i, if_pos (le_refl i.val), if_neg (by omega : ¬ i.val + 1 ≤ i.val),
    bigSep_congr (s := Finset.univ.erase i) (Φ := fun k : Fin 7 => if i.val ≤ k.val then A k else B k) (Ψ := fun k : Fin 7 => if i.val + 1 ≤ k.val then A k else B k)
      (fun k hk => by
        have hne : k.val ≠ i.val := fun h => (Finset.mem_erase.mp hk).1 (Fin.ext h)
        by_cases h : i.val ≤ k.val
        · rw [if_pos h, if_pos (by omega)]
        · rw [if_neg h, if_neg (by omega)])]
  iintro ⟨HA, HR⟩
  isplitl [HA]; · iexact HA
  iintro HB
  isplitl [HB] <;> iassumption

end Phase

/-! ## Every cell's invariant and its round 0 -/

def records (K : Dev nD × Fin 15 → ℕ) : sProp 𝕄 :=
  iprop((bigSep Finset.univ fun ck : Dev nD × Fin 15 => cellInv ER (ringRd m ρ) (K ck) (kcell ck))
    ∗ bigSep Finset.univ fun ck : Dev nD × Fin 15 => reached ER (kcell ck) 0)
instance records_persistent (K : Dev nD × Fin 15 → ℕ) : BI.Persistent (records m ρ K) := by unfold records; infer_instance

section Records
variable (K : Dev nD × Fin 15 → ℕ) (c : Dev nD) (k : Fin 7)

/-- The invariant of any one cell. -/
theorem inv_at (ck : Dev nD × Fin 15) : (records m ρ K) ⊢ cellInv ER (ringRd m ρ) (K ck) (kcell ck) := by
  unfold records
  iintro ⟨H, -⟩
  iapply (show (bigSep Finset.univ fun ck : Dev nD × Fin 15 => (cellInv ER (ringRd m ρ) (K ck) (kcell ck) : sProp 𝕄)) ⊢ cellInv ER (ringRd m ρ) (K ck) (kcell ck) from bigSep_elim (Finset.mem_univ ck))
  iexact H
/-- Any one cell has reached its first round. -/
theorem reached_at (ck : Dev nD × Fin 15) : (records m ρ K) ⊢ reached ER (kcell ck) 0 := by
  unfold records
  iintro ⟨-, H⟩
  iapply (show (bigSep Finset.univ fun ck : Dev nD × Fin 15 => (reached ER (kcell ck) 0 : sProp 𝕄)) ⊢ reached ER (kcell ck) 0 from bigSep_elim (Finset.mem_univ ck))
  iexact H

/-- The invariant of a barrier cell. -/
theorem inv_bar : (records m ρ K) ⊢ cellInv ER (ringRd m ρ) (K (c, 0)) (barCell c) := inv_at m ρ K (c, 0)
/-- The invariant of a send cell. -/
theorem inv_send : (records m ρ K) ⊢ cellInv ER (ringRd m ρ) (K (c, iS k)) (sendCell c k) := by
  have h := inv_at m ρ K (c, iS k)
  unfold kcell at h; dsimp only at h
  rwa [csem_send] at h
/-- The invariant of a receive cell. -/
theorem inv_recv : (records m ρ K) ⊢ cellInv ER (ringRd m ρ) (K (c, iR k)) (recvCell c k) := by
  have h := inv_at m ρ K (c, iR k)
  unfold kcell at h; dsimp only at h
  rwa [csem_recv] at h
/-- A barrier cell has reached its first round. -/
theorem reached_bar : (records m ρ K) ⊢ reached ER (barCell c) 0 := reached_at m ρ K (c, 0)
/-- A send cell has reached its first round. -/
theorem reached_send : (records m ρ K) ⊢ reached ER (sendCell c k) 0 := by
  have h := reached_at m ρ K (c, iS k)
  unfold kcell at h; dsimp only at h
  rwa [csem_send] at h
/-- A receive cell has reached its first round. -/
theorem reached_recv : (records m ρ K) ⊢ reached ER (recvCell c k) 0 := by
  have h := reached_at m ρ K (c, iR k)
  unfold kcell at h; dsimp only at h
  rwa [csem_recv] at h
end Records

section Steps
variable (K : Dev nD × Fin 15 → ℕ) (c : Dev nD)

/-! ## The signals -/

def sigA (k : Fin 7) : sProp 𝕄 := iprop(dutyTok ER (barCell (fwd k c)) 0 (opp k) ∗ ∃ f, slotPts c (opp k) f)
/-- Before signal `n`. -/
def sigSt (W : Waits sig Unit) (n : ℕ) : sProp 𝕄 := iprop(owes (c : Thread nD τ) (oweSig c n) W ∗ phase (sigA c) (fun _ => iprop(emp)) n)

/-- Signal `k` gives the peer the slot of this device's buffer that the peer writes. -/
theorem wp_sig (k : Fin 7) (n : Dev nD) (hn : n = fwd k c) (W : Waits sig Unit) (a : ℕ) (ha : a = 1) {α : Type} {Q : α → sProp 𝕄} {k' : PUnit → Prog (TpuEff nD τ sig (Elt F) Λ₀ .tc) α} :
    iprop(records m ρ K ∗ sigSt c W k.val) ⊢ iprop((sigSt c W (k.val + 1) -∗ wp frame (wpE (defs₀ (F := F)) 𝒱₀ (c : Thread nD τ) none) Set.univ (k' ⟨⟩) Q)
        -∗ wp frame (wpE (defs₀ (F := F)) 𝒱₀ (c : Thread nD τ) none) Set.univ (.op (.semSignal (Dev.tc n : Thread nD τ) barS a) k') Q) := by
  subst hn ha
  unfold sigSt
  iintro ⟨#HR, HO, HP⟩ Hk
  ihave H1 := (phase_step _ _ k) $$ HP
  icases H1 with ⟨HA, Hcl⟩
  unfold sigA
  icases HA with ⟨Htok, ⟨%f, Hs⟩⟩
  iapply (Rounds.wp_signal 𝒱₀ ER (ringRd m ρ) (c : Thread nD τ) none (dst := (fwd k c : Thread nD τ)) (κ := K (fwd k c, 0))
      (d := opp k) (by rw [duties_bar]; exact Finset.mem_univ _) (amount_bar m ρ (fwd k c) (opp k)) () (oweSig c (k.val + 1)) (oweSig_peel c k))
    $$ [HO Htok Hs]
  · isplitr; · iapply (inv_bar m ρ K (fwd k c)); iexact HR
    isplitl [HO]; · iexact HO
    isplitl [Htok]; · iexact Htok
    isplitl [Hs]
    · rw [payload_bar]; unfold barPay; rw [fwd_opp_fwd]
      isplitl [Hs]; · iexists f; iexact Hs
      iapply (reached_recv m ρ K c (opp k)); iexact HR
    · iapply (reached_bar m ρ K (fwd k c)); iexact HR
  iintro HO
  iapply Hk
  isplitl [HO]; · iexact HO
  iapply Hcl; iempintro

/-! ## The barrier wait -/

/-- The barrier wait receives, from every peer, the slot this device writes there. -/
theorem wp_bar (W : Waits sig Unit) (a : ℕ) (ha : a = 7) {α : Type} {Q : α → sProp 𝕄} {k' : PUnit → Prog (TpuEff nD τ sig (Elt F) Λ₀ .tc) α} :
    iprop(records m ρ K ∗ levAts L lv ∗ sigSt c W 7 ∗ cred (tallyAt (barCell c) () 7) ∗ atPos ER (barCell c) 0 ∅ 0)
      ⊢ iprop(((owes (c : Thread nD τ) (oweSnd c 0) (insert (SemLoc.reg barS, ()) W) ∗ semVal (barCell c) 0 ∗ bigSep Finset.univ (barPay c))
          -∗ wp frame (wpE (defs₀ (F := F)) 𝒱₀ (c : Thread nD τ) none) Set.univ (k' ⟨⟩) Q) -∗ wp frame (wpE (defs₀ (F := F)) 𝒱₀ (c : Thread nD τ) none) Set.univ (.op (.semWait barS a) k') Q) := by
  subst ha
  unfold sigSt
  rw [oweSig_seven]
  iintro ⟨#HR, #Hlev, ⟨HO, -⟩, Hc, Hat⟩ Hk
  iapply (Rounds.wp_wait_rest_token 𝒱₀ ER (ringRd m ρ) (c : Thread nD τ) none (κ := K (c, 0))
      (wpE_semWait_eq 𝒱₀ (c : Thread nD τ) none Set.univ) (Set.mem_univ _) () (O := oweSnd c 0) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (ringRd m ρ) (Set.mem_univ (K (c, 0))) (fun h => h) (R := 0 + 1) (duties_later m ρ (barCell c))) $$ [Hat] with Hz
  · isplitr; · iapply (inv_bar m ρ K c); iexact HR
    iexact Hat
  iapply Hk
  isplitl [HO]; · iexact HO
  isplitl [Hz]; · iexact Hz
  iexact Hp

/-! ## The transfers -/

def sndA (k : Fin 7) : sProp 𝕄 :=
  iprop(barPay c k ∗ dutyTok ER (sendCell c k) 0 0 ∗ dutyTok ER (recvCell (fwd k c) k) 0 0 ∗ sentPts m ρ c k)
def sndB (k : Fin 7) : sProp 𝕄 := cred (tallyAt (sendCell c k) () N)
/-- Before transfer `n`. -/
def sndSt (W : Waits sig Unit) (n : ℕ) : sProp 𝕄 := iprop(owes (c : Thread nD τ) (oweSnd c n) W ∗ phase (sndA m ρ c) (sndB (F := F) c) n)

/-- Copy `k` starts: its slot at the peer and a share of the block sent are given up until it lands. -/
theorem wp_snd (k : Fin 7) (n : Dev nD) (hn : n = fwd k c) (W : Waits sig Unit)
    {hsc : (slotM k).view.ref.isScScratch = false} {hsrc : (gM : Memref sig .tc .vmem S320x1024 .bf16).view.WordExact} {hdst : (slotM k).view.WordExact}
    {hsem : DmaTarget.Typed .vmem (.dma (recvS k)) (.remote (Dev.tc n : Thread nD τ) (slotM k) (.dma (sendS k)) hsc)}
    {α : Type} {Q : α → sProp 𝕄} {k' : PUnit → Prog (TpuEff nD τ sig (Elt F) Λ₀ .tc) α} :
    iprop(records m ρ K ∗ sndSt m ρ c W k.val) ⊢ iprop((sndSt m ρ c W (k.val + 1) -∗ wp frame (wpE (defs₀ (F := F)) 𝒱₀ (c : Thread nD τ) none) Set.univ (k' ⟨⟩) Q)
        -∗ wp frame (wpE (defs₀ (F := F)) 𝒱₀ (c : Thread nD τ) none) Set.univ (.op (.enqueueDma gM (.remote (Dev.tc n : Thread nD τ) (slotM k) (.dma (sendS k)) hsc) (.dma (recvS k)) hsrc hdst hsem) k') Q) := by
  subst hn
  unfold sndSt
  iintro ⟨#HR, HO, HP⟩ Hk
  ihave H1 := (phase_step _ _ k) $$ HP
  icases H1 with ⟨HA, Hcl⟩
  unfold sndA barPay
  icases HA with ⟨⟨⟨%fd, Hd⟩, #Hr⟩, Hts, Htr, Hg⟩
  unfold sentPts slotPts
  iapply (Rounds.wp_send_pointsTo 𝒱₀ ER (ringRd m ρ) (c : Thread nD τ) none (κ₁ := K (c, iS k)) (κ₂ := K (fwd k c, iR k))
    (r₁ := 0) (r₂ := 0) (d₁ := 0) (d₂ := 0) (fd := fd)
    (by rw [duties_send]; exact Finset.mem_singleton_self _) (by rw [duties_recv]; exact Finset.mem_singleton_self _)
    () () N rfl (amount_dma m ρ c (sendS k) 0) (amount_dma m ρ (fwd k c) (recvS k) 0) (oweSnd c (k.val + 1)) (oweSnd_peel c k) (W := W)
    (by rw [payload_send]; exact BI.Entails.refl _)
    (by
      rw [payload_recv]; unfold recvPay
      rw [← slotPts_landed m ρ (fwd k c) k fd, bwd_fwd]
      exact BI.Entails.refl _)) $$ [HO Hd Hts Htr Hg]
  · isplitr; · iapply (inv_send m ρ K c k); iexact HR
    isplitr; · iapply (inv_recv m ρ K (fwd k c) k); iexact HR
    isplitl [Hg]; · iexact Hg
    isplitl [Hd]; · iexact Hd
    isplitl [HO]; · iexact HO
    isplitl [Hts]; · iexact Hts
    isplitr; · iapply (reached_send m ρ K c k); iexact HR
    isplitl [Htr]; · iexact Htr
    iexact Hr
  iintro ⟨Hc, HO⟩
  iapply Hk
  isplitl [HO]; · iexact HO
  iapply Hcl; unfold sndB; iexact Hc

/-! ## A wait on a send or receive cell, owing nothing -/

/-- A wait for one copy's credit yields what the cell holds. -/
theorem wp_wait_cell (q : DmaSem sig) (κ : ℕ) (W : Waits sig Unit) (hq : (ringRd (F := F) m ρ).expect ((c : Thread nD τ), .dma q) 0 = N)
    {s s' : Shape} {e : EltTy} {src : Memref sig .tc .vmem s e} {dst : Memref sig .tc .vmem s' e} {hsrc : src.view.WordExact} {hdst : dst.view.WordExact} (hN : dst.view.dmaCredit = N)
    {α : Type} {Q : α → sProp 𝕄} {k' : PUnit → Prog (TpuEff nD τ sig (Elt F) Λ₀ .tc) α} :
    iprop(cellInv ER (ringRd m ρ) κ ((c : Thread nD τ), .dma q) ∗ cred (tallyAt ((c : Thread nD τ), SemLoc.dma q) () N) ∗ owes (c : Thread nD τ) 0 W
        ∗ atPos ER ((c : Thread nD τ), .dma q) 0 ∅ 0)
      ⊢ iprop(((owes (c : Thread nD τ) 0 (insert (SemLoc.dma q, ()) W) ∗ semVal ((c : Thread nD τ), SemLoc.dma q) 0
            ∗ bigSep ((ringRd (F := F) m ρ).duties ((c : Thread nD τ), .dma q) 0 \ ∅) fun d => (ringRd (F := F) m ρ).payload ((c : Thread nD τ), .dma q) 0 d) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 q src dst hsrc hdst) k') Q) := by
  iintro ⟨#HI, Hc, HO, Hat⟩ Hk
  iapply (Rounds.wp_wait_rest_token 𝒱₀ ER (ringRd m ρ) (c : Thread nD τ) none (κ := κ)
      (wpE_waitDma2_eq 𝒱₀ (c : Thread nD τ) none Set.univ) (Set.mem_univ _) () (O := 0) (W := W) (R := 0) (m := 0) (T := ∅)
      (by rw [Nat.zero_add, hN, hq])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  imod (Rounds.cell_close ER (ringRd m ρ) (Set.mem_univ κ) (fun h => h) (R := 0 + 1) (duties_later m ρ ((c : Thread nD τ), .dma q))) $$ [Hat] with Hz
  · isplitr; · iexact HI
    iexact Hat
  iapply Hk
  isplitl [HO]; · iexact HO
  isplitl [Hz]; · iexact Hz
  iexact Hpay

/-! ## The received blocks -/

abbrev rO : Rect S2048x1024 := Rect.unit (s := S2048x1024) ![0, 0] S2048x1024.size inb_S2048x1024_S2048x1024_0_0

omit [FloatOps F] in
/-- The zero offsets. -/
theorem hz : (![0, 0] : Fin 2 → Nat) = fun _ => 0 := funext fun a => by fin_cases a <;> rfl
omit [FloatOps F] in
/-- A load of the whole result buffer reads its contents. -/
theorem read_out (f : (cc0_stg5_0 : Ref sig .tc).ty.Contents (Elt F)) :
    (oM : Memref sig .tc .vmem S2048x1024 .f32).view.readAt (Elt F) rO.toLoadRect f = f :=
  Memref.readAt_unit_zero (Elt F) cc0_stg5_0 hz _ _
omit [FloatOps F] in
/-- A store over the whole result buffer leaves the value stored. -/
theorem write_out (f w : (cc0_stg5_0 : Ref sig .tc).ty.Contents (Elt F)) :
    ((oM : Memref sig .tc .vmem S2048x1024 .f32).access rO : View sig .tc _ _ _).write (Elt F) f w Finset.univ = w :=
  Memref.write_access_unit_zero_univ (Elt F) cc0_stg5_0 hz _ f w

def rcvA (k : Fin 7) : sProp 𝕄 := iprop(cred (tallyAt (recvCell c k) () N) ∗ atPos ER (recvCell c k) 0 ∅ 0)
def rcvB (k : Fin 7) : sProp 𝕄 := iprop(semVal (recvCell c k) 0 ∗ slotPts c k (landed m ρ c k))
/-- Before the `n`-th received block is added. -/
def rcvSt (n : ℕ) : sProp 𝕄 :=
  iprop((∃ W, owes (c : Thread nD τ) 0 W) ∗ phase (rcvA (F := F) c) (rcvB m ρ c) n ∗ (((c : Thread nD τ).loc cc0_stg5_0) ↦{fullShare} outN m ρ c n))

/-- The result after one more arrival. -/
theorem outN_succ (k : Fin 7) : outN m ρ c (k.val + 1) = stepV (devW c) (ixA m ρ c) k (outN m ρ c k.val) (slotRd m ρ c k) := by
  conv_lhs => unfold outN
  rw [dif_pos k.isLt]

/-- Arrival `k`: wait, read the slot and add its rows to the result. -/
theorem wp_rcv (k : Fin 7) {g : Vec F S2048x1024 .f32 → Vec F S1x320x1024 .bf16 → Vec F S2048x1024 .f32}
    (hg : ∀ o s, g o s = stepV (devW c) (ixA m ρ c) k o s)
    {h1 : (gM : Memref sig .tc .vmem S320x1024 .bf16).view.WordExact} {h2 : (slotM k).view.WordExact}
    {h3 : (oM : Memref sig .tc .vmem S2048x1024 .f32).view.LoadsAt rO.toLoadRect} {h4 : (rM : Memref sig .tc .vmem S7x320x1024 .bf16).view.LoadsAt (rSlot k).toLoadRect}
    {h5 : (oM : Memref sig .tc .vmem S2048x1024 .f32).view.LoadsAt rO.toLoadRect} {h6 : ((oM : Memref sig .tc .vmem S2048x1024 .f32).access rO).Stores Finset.univ}
    {h7 : (Finset.univ : Finset rO.shape.Idx) = Finset.univ ∨ ∀ a, rO.stride a = 1}
    {α : Type} {Q : α → sProp 𝕄} {k' : PUnit → Prog (TpuEff nD τ sig (Elt F) Λ₀ .tc) α} :
    iprop(records m ρ K ∗ rcvSt m ρ c k.val) ⊢ iprop((rcvSt m ρ c (k.val + 1) -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 (recvS k) gM (slotM k) h1 h2) fun _ => .op (.load oM rO.toLoadRect h3) fun o => .op (.load rM (rSlot k).toLoadRect h4) fun s =>
            .op (.load oM rO.toLoadRect h5) fun _ => .op (.store oM rO (g o s) Finset.univ h6 h7) k') Q) := by
  unfold rcvSt
  iintro ⟨#HR, ⟨%W, HO⟩, HP, Ho⟩ Hk
  ihave H1 := (phase_step _ _ k) $$ HP
  icases H1 with ⟨HA, Hcl⟩
  unfold rcvA
  icases HA with ⟨Hc, Hat⟩
  iapply (wp_wait_cell m ρ c (recvS k) (K (c, iR k)) W (expect_recv m ρ c k) (N_slot k)) $$ [Hc HO Hat]
  · isplitr; · iapply (inv_recv m ρ K c k); iexact HR
    isplitl [Hc]; · iexact Hc
    isplitl [HO]; · iexact HO
    iexact Hat
  iintro ⟨HO, Hz, Hp⟩
  ihave Hs := (Entails.of_eq (rest_recv m ρ c k)) $$ Hp
  unfold recvPay slotPts
  iapply (wp_load 𝒱₀ (c : Thread nD τ) none Set.univ (m := oM) (Finset.subset_univ _)) $$ Ho; iintro Ho
  rw [read_out]
  iapply (wp_load 𝒱₀ (c : Thread nD τ) none Set.univ (m := rM) (r := (rSlot k).toLoadRect) (S := (slotM k).view.set) (f := landed m ρ c k)
    (by rw [View.set_reshape, View.set_slice]; exact Finset.Subset.refl _)) $$ Hs
  iintro Hs
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [write_out]
  iapply Hk
  isplitl [HO]; · iexists _; iexact HO
  isplitl [Hz Hs Hcl]
  · iapply Hcl; unfold rcvB slotPts
    isplitl [Hz] <;> iassumption
  rw [outN_succ, hg]; unfold slotRd; iexact Ho

/-! ## The send waits -/

def finA (k : Fin 7) : sProp 𝕄 := iprop(cred (tallyAt (sendCell c k) () N) ∗ atPos ER (sendCell c k) 0 ∅ 0)
def finB (k : Fin 7) : sProp 𝕄 := iprop(semVal (sendCell c k) 0 ∗ sentPts m ρ c k)
def finSt (n : ℕ) : sProp 𝕄 := iprop((∃ W, owes (c : Thread nD τ) 0 W) ∗ phase (finA (F := F) c) (finB m ρ c) n)

/-- The wait for the end of send `k` gives the share of the block back. -/
theorem wp_fin (k : Fin 7) {h1 : (slotM k).view.WordExact} {h2 : (gM : Memref sig .tc .vmem S320x1024 .bf16).view.WordExact}
    {α : Type} {Q : α → sProp 𝕄} {k' : PUnit → Prog (TpuEff nD τ sig (Elt F) Λ₀ .tc) α} :
    iprop(records m ρ K ∗ finSt m ρ c k.val) ⊢ iprop((finSt m ρ c (k.val + 1) -∗ wp frame (wpE (defs₀ (F := F)) 𝒱₀ (c : Thread nD τ) none) Set.univ (k' ⟨⟩) Q)
        -∗ wp frame (wpE (defs₀ (F := F)) 𝒱₀ (c : Thread nD τ) none) Set.univ (.op (.waitDma2 (sendS k) (slotM k) gM h1 h2) k') Q) := by
  unfold finSt
  iintro ⟨#HR, ⟨%W, HO⟩, HP⟩ Hk
  ihave H1 := (phase_step _ _ k) $$ HP
  icases H1 with ⟨HA, Hcl⟩
  unfold finA
  icases HA with ⟨Hc, Hat⟩
  iapply (wp_wait_cell m ρ c (sendS k) (K (c, iS k)) W (expect_send m ρ c k) rfl) $$ [Hc HO Hat]
  · isplitr; · iapply (inv_send m ρ K c k); iexact HR
    isplitl [Hc]; · iexact Hc
    isplitl [HO]; · iexact HO
    iexact Hat
  iintro ⟨HO, Hz, Hp⟩
  ihave Hs := (Entails.of_eq (rest_send m ρ c k)) $$ Hp
  unfold sendPay
  iapply Hk
  isplitl [HO]; · iexists _; iexact HO
  iapply Hcl; unfold finB
  isplitl [Hz] <;> iassumption

end Steps

end Cert.Moe

end
-- ==== Proof.Data.lean ====
/-
# What one device holds

At launch, between the stretches of the exchange, and at the end: the receive buffer slot by slot,
the families of each stretch entered, and the proof data of the pipelined call.
-/
module

public import proofs.«01_k».proof.Proof.Steps
public import Idealize.ShloMosaic.Lib.Ring

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots of the receive buffer -/

/-- An index lies in slot `k` where its first coordinate is `k`. -/
theorem mem_slot (k : Fin 7) (i : S7x320x1024.Idx) : i ∈ (slotM k).view.set ↔ (i 0).val = k.val := by
  rw [View.set_reshape, View.set_slice_whole, Rect.mem_set_unit]
  constructor
  · intro h
    have h0 := h 0
    have h1 : k.val ≤ (i 0).val := h0.1
    have h2 : (i 0).val < k.val + 1 := h0.2
    omega
  · intro h a
    have h1 : (i 1).val < 320 := (i 1).isLt
    have h2 : (i 2).val < 1024 := (i 2).isLt
    fin_cases a
    · exact ⟨show k.val ≤ (i 0).val by omega, show (i 0).val < k.val + 1 by omega⟩
    · exact ⟨Nat.zero_le _, show (i 1).val < 0 + 320 by omega⟩
    · exact ⟨Nat.zero_le _, show (i 2).val < 0 + 1024 by omega⟩

/-- Two slots have no index in common. -/
theorem slots_disjoint (k k' : Fin 7) (h : k ≠ k') : Disjoint (slotM k).view.set (slotM k').view.set :=
  Finset.disjoint_left.mpr fun i hi hi' => h (Fin.ext (((mem_slot k i).mp hi).symm.trans ((mem_slot k' i).mp hi')))
abbrev slotSet (k : Fin 7) : Finset S7x320x1024.Idx := (slotM k).view.set
/-- The slots are the whole buffer. -/
theorem slots_cover : (Finset.univ : Finset (Fin 7)).biUnion slotSet = Finset.univ := by
  ext i
  simp only [Finset.mem_biUnion, Finset.mem_univ, true_and, iff_true]
  exact ⟨⟨(i 0).val, (i 0).isLt⟩, (mem_slot _ i).mpr rfl⟩

omit [FloatOps F] in
/-- The receive buffer falls into its slots. -/
theorem slots_split (c : Dev nD) (f : Buf (Elt F) ((c : Thread nD τ).loc cc0_scratch1)) :
    (((c : Thread nD τ).loc cc0_scratch1) ↦{fullShare} f : sProp 𝕄) ⊢ bigSep Finset.univ fun k => iprop(∃ f, slotPts c k f) := by
  refine (Entails.of_eq (Ring.pointsTo_blocks (ℓ := (c : Thread nD τ).loc cc0_scratch1) slotSet slots_disjoint slots_cover f)).trans ?_
  exact bigSep_mono fun k _ => by
    show (_ : sProp 𝕄) ⊢ _
    iintro H; iexists f; unfold slotPts; iexact H

/-- The slots, filled, make up the receive buffer. -/
theorem slots_join (c : Dev nD) :
    (bigSep Finset.univ fun k => slotPts c k (landed m ρ c k) : sProp 𝕄) ⊢ iprop(∃ f, (((c : Thread nD τ).loc cc0_scratch1) ↦{fullShare} f)) := by
  refine BIBase.Entails.trans ?_ (Ring.pointsTo_blocks_join_exists (ℓ := (c : Thread nD τ).loc cc0_scratch1) slotSet slots_disjoint slots_cover (m ((c : Thread nD τ).loc cc0_scratch1)))
  exact bigSep_mono fun k _ => by
    show (_ : sProp 𝕄) ⊢ _
    unfold slotPts
    iintro H; iexists (landed m ρ c k); iexact H

/-! ## Entering and leaving the phases -/

omit [FloatOps F] in
/-- Seven times nothing is nothing. -/
theorem emp_family : (bigSep Finset.univ fun _ : Fin 7 => (iprop(emp) : sProp 𝕄)) ⊢ (iprop(emp) : sProp 𝕄) := by
  iintro -; iempintro

/-- What the signals start from. -/
theorem sig_enter (c : Dev nD) (W : Waits sig Unit) :
    iprop(owes (c : Thread nD τ) (O₀ c) W ∗ (bigSep Finset.univ fun k => dutyTok ER (barCell (fwd k c)) 0 (opp k))
      ∗ bigSep Finset.univ fun k => iprop(∃ f, slotPts (F := F) c k f)) ⊢ sigSt c W 0 := by
  unfold sigSt
  rw [phase_zero, show sigA (F := F) c = fun k => iprop(dutyTok ER (barCell (fwd k c)) 0 (opp k) ∗ ∃ f, slotPts c (opp k) f) from rfl, bigSep_sep',
    bigSep_univ_equiv oppE (fun k => iprop(∃ f, slotPts (F := F) c k f))]
  iintro ⟨HO, Ht, Hs⟩
  isplitl [HO]; · iexact HO
  isplitl [Ht]; · iexact Ht
  iexact Hs

/-- What the copies start from. -/
theorem snd_enter (c : Dev nD) (W : Waits sig Unit) :
    iprop(owes (c : Thread nD τ) (oweSnd c 0) W ∗ bigSep Finset.univ (barPay c)
      ∗ (bigSep Finset.univ fun k => dutyTok ER (sendCell c k) 0 0) ∗ (bigSep Finset.univ fun k => dutyTok ER (recvCell (fwd k c) k) 0 0)
      ∗ bigSep Finset.univ (sentPts m ρ c)) ⊢ sndSt m ρ c W 0 := by
  unfold sndSt
  rw [phase_zero, show sndA m ρ c = fun k => iprop(barPay c k ∗ dutyTok ER (sendCell c k) 0 0 ∗ dutyTok ER (recvCell (fwd k c) k) 0 0 ∗ sentPts m ρ c k) from rfl,
    bigSep_sep', bigSep_sep', bigSep_sep']

/-- What the arrivals start from. -/
theorem rcv_enter (c : Dev nD) (W : Waits sig Unit) :
    iprop(owes (c : Thread nD τ) 0 W ∗ (bigSep Finset.univ fun k => cred (tallyAt (recvCell c k) () N)) ∗ (bigSep Finset.univ fun k => atPos ER (recvCell c k) 0 ∅ 0)
      ∗ (((c : Thread nD τ).loc cc0_stg5_0) ↦{fullShare} outN m ρ c 0)) ⊢ rcvSt m ρ c 0 := by
  unfold rcvSt
  rw [phase_zero, show rcvA (F := F) c = fun k => iprop(cred (tallyAt (recvCell c k) () N) ∗ atPos ER (recvCell c k) 0 ∅ 0) from rfl, bigSep_sep']
  iintro ⟨HO, H1, H2, H3⟩
  isplitl [HO]; · iexists W; iexact HO
  isplitl [H1 H2]
  · isplitl [H1] <;> iassumption
  iexact H3

/-- What the last waits start from. -/
theorem fin_enter (c : Dev nD) :
    iprop((∃ W, owes (c : Thread nD τ) 0 W) ∗ bigSep Finset.univ (sndB (F := F) c) ∗ (bigSep Finset.univ fun k => atPos ER (sendCell c k) 0 ∅ 0)) ⊢ finSt m ρ c 0 := by
  unfold finSt
  rw [phase_zero, show finA (F := F) c = fun k => iprop(cred (tallyAt (sendCell c k) () N) ∗ atPos ER (sendCell c k) 0 ∅ 0) from rfl, bigSep_sep']
  exact Entails.refl _

/-! ## What a device starts and ends with -/

/-- Its positions at its own cells, and the tokens it pays with. -/
def linear (c : Dev nD) : sProp 𝕄 :=
  iprop(atPos ER (barCell c) 0 ∅ 0 ∗ (bigSep Finset.univ fun k => atPos ER (sendCell c k) 0 ∅ 0) ∗ (bigSep Finset.univ fun k => atPos ER (recvCell c k) 0 ∅ 0)
    ∗ (bigSep Finset.univ fun k => dutyTok ER (barCell (fwd k c)) 0 (opp k)) ∗ (bigSep Finset.univ fun k => dutyTok ER (sendCell c k) 0 0)
    ∗ bigSep Finset.univ fun k => dutyTok ER (recvCell (fwd k c) k) 0 0)

/-- The credits it starts with. -/
def credits (c : Dev nD) : sProp 𝕄 :=
  iprop(cred (tallyAt (barCell c) () 7) ∗ bigSep Finset.univ fun k => cred (tallyAt (recvCell c k) () N))

def start (c : Dev nD) : sProp 𝕄 := iprop((∃ K, records m ρ K ∗ linear c) ∗ credits c ∗ levAts L lv)

abbrev sPts (c : Dev nD) (f : Buf (Elt F) ((c : Thread nD τ).loc cc0_scratch0)) : sProp 𝕄 := ((c : Thread nD τ).loc cc0_scratch0) ↦{fullShare} f
abbrev rPts (c : Dev nD) (f : Buf (Elt F) ((c : Thread nD τ).loc cc0_scratch1)) : sProp 𝕄 := ((c : Thread nD τ).loc cc0_scratch1) ↦{fullShare} f

def Φ₀ (c : Dev nD) : sProp 𝕄 := iprop(start m ρ c ∗ (∃ f, sPts c f) ∗ ∃ f, rPts c f)
def zeros (c : Dev nD) : sProp 𝕄 :=
  iprop(semVal (barCell c) 0 ∗ (bigSep Finset.univ fun k => semVal (sendCell c k) 0) ∗ bigSep Finset.univ fun k => semVal (recvCell c k) 0)
def Φ₁ (c : Dev nD) : sProp 𝕄 := iprop((∃ f, sPts (F := F) c f) ∗ (∃ f, rPts (F := F) c f) ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m ρ c
    | ⟨1, _⟩ => rwA m ρ c
    | ⟨2, _⟩ => ixA m ρ c
    | ⟨3, _⟩ => ewA m ρ c
    | ⟨4, _⟩ => swA m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
/-- A family over the six windows, written out. -/
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ
/-- The grid has one point. -/
theorem fin_N (t : Fin cfg0.N) : t = (t0_0 : Fin cfg0.N) := fin_N0 t

omit [FloatOps F] in
/-- Owning a whole buffer with given contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Moe

end
-- ==== Proof.Body.lean ====
/-
# The body of one device

Run symbolically from what a device holds at launch: seven signals, the barrier wait, the rows of its own experts,
seven transfers, its own part of the result, seven received blocks, seven send waits.
-/
module

public import proofs.«01_k».proof.Proof.Data

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphore arrays' slices -/

theorem sl0 : ((cc0_scratch2.slice (Rect.unit (s := S7) ![0] S1.size inb_S7_S1_0)).squeeze S_ squeezes_S1_S_).sem = sendS 0 := rfl
theorem sl1 : ((cc0_scratch2.slice (Rect.unit (s := S7) ![1] S1.size inb_S7_S1_1)).squeeze S_ squeezes_S1_S_).sem = sendS 1 := rfl
theorem sl2 : ((cc0_scratch2.slice (Rect.unit (s := S7) ![2] S1.size inb_S7_S1_2)).squeeze S_ squeezes_S1_S_).sem = sendS 2 := rfl
theorem sl3 : ((cc0_scratch2.slice (Rect.unit (s := S7) ![3] S1.size inb_S7_S1_3)).squeeze S_ squeezes_S1_S_).sem = sendS 3 := rfl
theorem sl4 : ((cc0_scratch2.slice (Rect.unit (s := S7) ![4] S1.size inb_S7_S1_4)).squeeze S_ squeezes_S1_S_).sem = sendS 4 := rfl
theorem sl5 : ((cc0_scratch2.slice (Rect.unit (s := S7) ![5] S1.size inb_S7_S1_5)).squeeze S_ squeezes_S1_S_).sem = sendS 5 := rfl
theorem sl6 : ((cc0_scratch2.slice (Rect.unit (s := S7) ![6] S1.size inb_S7_S1_6)).squeeze S_ squeezes_S1_S_).sem = sendS 6 := rfl
theorem rl0 : ((cc0_scratch3.slice (Rect.unit (s := S7) ![0] S1.size inb_S7_S1_0)).squeeze S_ squeezes_S1_S_).sem = recvS 0 := rfl
theorem rl1 : ((cc0_scratch3.slice (Rect.unit (s := S7) ![1] S1.size inb_S7_S1_1)).squeeze S_ squeezes_S1_S_).sem = recvS 1 := rfl
theorem rl2 : ((cc0_scratch3.slice (Rect.unit (s := S7) ![2] S1.size inb_S7_S1_2)).squeeze S_ squeezes_S1_S_).sem = recvS 2 := rfl
theorem rl3 : ((cc0_scratch3.slice (Rect.unit (s := S7) ![3] S1.size inb_S7_S1_3)).squeeze S_ squeezes_S1_S_).sem = recvS 3 := rfl
theorem rl4 : ((cc0_scratch3.slice (Rect.unit (s := S7) ![4] S1.size inb_S7_S1_4)).squeeze S_ squeezes_S1_S_).sem = recvS 4 := rfl
theorem rl5 : ((cc0_scratch3.slice (Rect.unit (s := S7) ![5] S1.size inb_S7_S1_5)).squeeze S_ squeezes_S1_S_).sem = recvS 5 := rfl
theorem rl6 : ((cc0_scratch3.slice (Rect.unit (s := S7) ![6] S1.size inb_S7_S1_6)).squeeze S_ squeezes_S1_S_).sem = recvS 6 := rfl

/-! ## The whole-buffer loads and stores -/

omit [FloatOps F] in
/-- A load of all the tokens. -/
theorem read_x (f : (cc0_stg0_0 : Ref sig .tc).ty.Contents (Elt F)) :
    (xM : Memref sig .tc .vmem S2048x512 .bf16).view.readAt (Elt F) (Rect.unit (s := S2048x512) ![0, 0] S2048x512.size inb_S2048x512_S2048x512_0_0).toLoadRect f = f :=
  Memref.readAt_unit_zero (Elt F) cc0_stg0_0 hz _ _
omit [FloatOps F] in
/-- A load of all the router's weights. -/
theorem read_rw (f : (cc0_stg1_0 : Ref sig .tc).ty.Contents (Elt F)) :
    (rwM : Memref sig .tc .vmem S512x64 .bf16).view.readAt (Elt F) (Rect.unit (s := S512x64) ![0, 0] S512x64.size inb_S512x64_S512x64_0_0).toLoadRect f = f :=
  Memref.readAt_unit_zero (Elt F) cc0_stg1_0 hz _ _
omit [FloatOps F] in
/-- A load of all the experts' indices. -/
theorem read_ix (f : (cc0_stg2_0 : Ref sig .tc).ty.Contents (Elt F)) :
    (ixM : Memref sig .tc .vmem S2048x1 .i32).view.readAt (Elt F) (Rect.unit (s := S2048x1) ![0, 0] S2048x1.size inb_S2048x1_S2048x1_0_0).toLoadRect f = f :=
  Memref.readAt_unit_zero (Elt F) cc0_stg2_0 hz _ _
omit [FloatOps F] in
/-- A load of all the shared weights. -/
theorem read_sw (f : (cc0_stg4_0 : Ref sig .tc).ty.Contents (Elt F)) :
    (swM : Memref sig .tc .vmem S512x1024 .bf16).view.readAt (Elt F) (Rect.unit (s := S512x1024) ![0, 0] S512x1024.size inb_S512x1024_S512x1024_0_0).toLoadRect f = f :=
  Memref.readAt_unit_zero (Elt F) cc0_stg4_0 hz _ _
abbrev rG : Rect S320x1024 := Rect.unit (s := S320x1024) ![0, 0] S320x1024.size inb_S320x1024_S320x1024_0_0
omit [FloatOps F] in
/-- A store over the whole send buffer leaves the value stored. -/
theorem write_sent (f w : (cc0_scratch0 : Ref sig .tc).ty.Contents (Elt F)) :
    ((gM : Memref sig .tc .vmem S320x1024 .bf16).access rG : View sig .tc _ _ _).write (Elt F) f w Finset.univ = w :=
  Memref.write_access_unit_zero_univ (Elt F) cc0_scratch0 hz _ f w

/-- One copy's share of the send buffer. -/
theorem sentPts_eq (c : Dev nD) (k : Fin 7) : sentPts m ρ c k = iprop(((c : Thread nD τ).loc cc0_scratch0) ↦{shareTok fullShare 7 k} ygAt m ρ c) := by
  unfold sentPts
  rw [show (gM : Memref sig .tc .vmem S320x1024 .bf16).view.set = Finset.univ from View.set_whole _]

/-- The send buffer is shared among the seven copies. -/
theorem sent_split (c : Dev nD) :
    sPts c (ygAt m ρ c) ⊢ iprop((((c : Thread nD τ).loc cc0_scratch0) ↦{shareDrop fullShare 7} ygAt m ρ c) ∗ bigSep Finset.univ (sentPts m ρ c)) := by
  refine (Transfers.pointsTo_toks_split fullShare 7).trans ?_
  rw [show sentPts m ρ c = _ from funext fun k => sentPts_eq m ρ c k]
/-- The shares, returned, make up the send buffer. -/
theorem sent_join (c : Dev nD) :
    iprop((((c : Thread nD τ).loc cc0_scratch0) ↦{shareDrop fullShare 7} ygAt m ρ c) ∗ bigSep Finset.univ (sentPts m ρ c)) ⊢ sPts c (ygAt m ρ c) := by
  refine BIBase.Entails.trans ?_ (Transfers.pointsTo_toks_join fullShare 7)
  rw [show sentPts m ρ c = _ from funext fun k => sentPts_eq m ρ c k]

/-- The store of the device's rows into the send buffer. -/
theorem wp_store_sent (c : Dev nD) (f w : (cc0_scratch0 : Ref sig .tc).ty.Contents (Elt F)) (hw : w = ygAt m ρ c)
    {hx : ((gM : Memref sig .tc .vmem S320x1024 .bf16).access rG).Stores Finset.univ} {hm : (Finset.univ : Finset rG.shape.Idx) = Finset.univ ∨ ∀ a, rG.stride a = 1}
    {α : Type} {Q : α → sProp 𝕄} {k' : PUnit → Prog (TpuEff nD τ sig (Elt F) Λ₀ .tc) α} :
    sPts c f ⊢ iprop((sPts c (ygAt m ρ c) -∗ wp frame (wpE (defs₀ (F := F)) 𝒱₀ (c : Thread nD τ) none) Set.univ (k' ⟨⟩) Q)
      -∗ wp frame (wpE (defs₀ (F := F)) 𝒱₀ (c : Thread nD τ) none) Set.univ (.op (.store gM rG w Finset.univ hx hm) k') Q) := by
  subst hw
  iintro Hs Hk
  iapply (wp_store 𝒱₀ (c : Thread nD τ) none Set.univ (m := gM) (r := rG) (Mk := Finset.univ) (Finset.subset_univ _)) $$ Hs; iintro Hs
  rw [write_sent]
  iapply Hk; iexact Hs

/-- The first store into the result buffer. -/
theorem wp_store_out (c : Dev nD) (f w : (cc0_stg5_0 : Ref sig .tc).ty.Contents (Elt F)) (hw : w = outN m ρ c 0)
    {hx : ((oM : Memref sig .tc .vmem S2048x1024 .f32).access rO).Stores Finset.univ} {hm : (Finset.univ : Finset rO.shape.Idx) = Finset.univ ∨ ∀ a, rO.stride a = 1}
    {α : Type} {Q : α → sProp 𝕄} {k' : PUnit → Prog (TpuEff nD τ sig (Elt F) Λ₀ .tc) α} :
    (((c : Thread nD τ).loc cc0_stg5_0) ↦{fullShare} f) ⊢ iprop(((((c : Thread nD τ).loc cc0_stg5_0) ↦{fullShare} outN m ρ c 0) -∗ wp frame (wpE (defs₀ (F := F)) 𝒱₀ (c : Thread nD τ) none) Set.univ (k' ⟨⟩) Q)
      -∗ wp frame (wpE (defs₀ (F := F)) 𝒱₀ (c : Thread nD τ) none) Set.univ (.op (.store oM rO w Finset.univ hx hm) k') Q) := by
  subst hw
  iintro Hs Hk
  iapply (wp_store 𝒱₀ (c : Thread nD τ) none Set.univ (m := oM) (r := rO) (Mk := Finset.univ) (Finset.subset_univ _)) $$ Hs; iintro Hs
  rw [write_out]
  iapply Hk; iexact Hs

/-! ## The run -/

theorem fetch_0 (t : Fin cfg0.N) : (cfg0.win (0 : Fin 6)).fetch t = true := by rw [fin_N t]; rfl
theorem fetch_1 (t : Fin cfg0.N) : (cfg0.win (1 : Fin 6)).fetch t = true := by rw [fin_N t]; rfl
theorem fetch_2 (t : Fin cfg0.N) : (cfg0.win (2 : Fin 6)).fetch t = true := by rw [fin_N t]; rfl
theorem fetch_3 (t : Fin cfg0.N) : (cfg0.win (3 : Fin 6)).fetch t = true := by rw [fin_N t]; rfl
theorem fetch_4 (t : Fin cfg0.N) : (cfg0.win (4 : Fin 6)).fetch t = true := by rw [fin_N t]; rfl

abbrev t₀ : Fin cfg0.N := t0_0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def stages (c : Dev nD) : sProp 𝕄 :=
  iprop((∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))

def bodyPre (c : Dev nD) : sProp 𝕄 := iprop(Φ₀ m ρ c ∗ (dats m ρ 0 c).owesAt () t₀.castSucc ∗ stages m ρ c)
def bodyPost (c : Dev nD) : sProp 𝕄 :=
  iprop(Φ₁ c ∗ (dats m ρ 0 c).owesAt () t₀.succ ∗ stg c cc0_stg0_0 (xA m ρ c) ∗ stg c cc0_stg1_0 (rwA m ρ c) ∗ stg c cc0_stg2_0 (ixA m ρ c)
    ∗ stg c cc0_stg3_0 (ewA m ρ c) ∗ stg c cc0_stg4_0 (swA m ρ c) ∗ stg c cc0_stg5_0 (outAt m ρ c))

set_option maxHeartbeats 8000000 in
/-- The body, run from its inputs and the start of the exchange, leaves the result and every semaphore at zero. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel
  simp only [semSignalWord, semWaitWord, Prog.lift, Prog.bind_op, Prog.bind_ret, Prog.pure_eq_ret, Prog.bind_assoc, wp_deviceId,
    sl0, sl1, sl2, sl3, sl4, sl5, sl6, rl0, rl1, rl2, rl3, rl4, rl5, rl6]
  unfold bodyPre Φ₀ start linear credits stages
  iintro ⟨⟨⟨⟨⟨%K, #HR, HatB, HatS, HatR, HtB, HtS, HtR⟩, ⟨HcB, HcR⟩, #Hlev⟩, ⟨%fs, Hs⟩, ⟨%fr, Hr⟩⟩, Ho,
    ⟨%d0, %g0, %hg0, Hx⟩, ⟨%d1, %g1, %hg1, Hrw⟩, ⟨%d2, %g2, %hg2, Hix⟩, ⟨%d3, %g3, %hg3, Hew⟩, ⟨%d4, %g4, %hg4, Hsw⟩, ⟨%d5, %g5, %hg5, Hout⟩⟩, Hk⟩
  have hx : g0 = xA m ρ c := by rw [hg0]; unfold Dat.before; rw [if_pos (fetch_0 t₀)]; rfl
  have hrw : g1 = rwA m ρ c := by rw [hg1]; unfold Dat.before; rw [if_pos (fetch_1 t₀)]; rfl
  have hix : g2 = ixA m ρ c := by rw [hg2]; unfold Dat.before; rw [if_pos (fetch_2 t₀)]; rfl
  have hew : g3 = ewA m ρ c := by rw [hg3]; unfold Dat.before; rw [if_pos (fetch_3 t₀)]; rfl
  have hsw : g4 = swA m ρ c := by rw [hg4]; unfold Dat.before; rw [if_pos (fetch_4 t₀)]; rfl
  subst hx hrw hix hew hsw
  unfold Dat.owesAt Pipeline.owesWithin
  icases Ho with ⟨%W, %hW, HO⟩
  rw [show (dats m ρ 0 c).owed t₀.castSucc = O₀ c from rfl]
  ihave Hrs := (slots_split c fr) $$ Hr
  ihave HS := (sig_enter c W) $$ [HO HtB Hrs]
  · isplitl [HO]; · iexact HO
    isplitl [HtB] <;> iassumption
  iapply (wp_sig m ρ K c 0 _ (dev1_eq c) W _ (by decide)) $$ [HS]
  · isplitr; · iexact HR
    iexact HS
  iintro HS
  iapply (wp_sig m ρ K c 1 _ (dev2_eq c) W _ (by decide)) $$ [HS]
  · isplitr; · iexact HR
    iexact HS
  iintro HS
  iapply (wp_sig m ρ K c 2 _ (dev3_eq c) W _ (by decide)) $$ [HS]
  · isplitr; · iexact HR
    iexact HS
  iintro HS
  iapply (wp_sig m ρ K c 3 _ (dev4_eq c) W _ (by decide)) $$ [HS]
  · isplitr; · iexact HR
    iexact HS
  iintro HS
  iapply (wp_sig m ρ K c 4 _ (dev5_eq c) W _ (by decide)) $$ [HS]
  · isplitr; · iexact HR
    iexact HS
  iintro HS
  iapply (wp_sig m ρ K c 5 _ (dev6_eq c) W _ (by decide)) $$ [HS]
  · isplitr; · iexact HR
    iexact HS
  iintro HS
  iapply (wp_sig m ρ K c 6 _ (dev7_eq c) W _ (by decide)) $$ [HS]
  · isplitr; · iexact HR
    iexact HS
  iintro HS
  iapply (wp_bar m ρ K c W _ (by decide)) $$ [HS HcB HatB]
  · isplitr; · iexact HR
    isplitr; · iexact Hlev
    isplitl [HS]; · iexact HS
    isplitl [HcB] <;> iassumption
  iintro ⟨HO, HzB, HB⟩
  iapply (wp_load 𝒱₀ (c : Thread nD τ) none Set.univ (m := xM) (Finset.subset_univ _)) $$ Hx; iintro Hx
  rw [read_x]
  iapply (wp_load 𝒱₀ (c : Thread nD τ) none Set.univ (m := rwM) (Finset.subset_univ _)) $$ Hrw; iintro Hrw
  rw [read_rw]
  iapply (wp_load 𝒱₀ (c : Thread nD τ) none Set.univ (m := ixM) (Finset.subset_univ _)) $$ Hix; iintro Hix
  rw [read_ix]
  iapply (wp_load 𝒱₀ (c : Thread nD τ) none Set.univ (m := xM) (Finset.subset_univ _)) $$ Hx; iintro Hx
  rw [read_x]
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := gM) (Finset.subset_univ _)) $$ Hs; iintro Hs
  iapply (wp_store_sent m ρ c _ _ (by rfl)) $$ Hs; iintro Hs
  ihave Hs2 := (sent_split m ρ c) $$ Hs
  icases Hs2 with ⟨Hs0, Hst⟩
  ihave HS := (snd_enter m ρ c _) $$ [HO HB HtS HtR Hst]
  · isplitl [HO]; · iexact HO
    isplitl [HB]; · iexact HB
    isplitl [HtS]; · iexact HtS
    isplitl [HtR] <;> iassumption
  iapply (wp_snd m ρ K c 0 _ (dev8_eq c) _) $$ [HS]
  · isplitr; · iexact HR
    iexact HS
  iintro HS
  iapply (wp_snd m ρ K c 1 _ (dev9_eq c) _) $$ [HS]
  · isplitr; · iexact HR
    iexact HS
  iintro HS
  iapply (wp_snd m ρ K c 2 _ (dev10_eq c) _) $$ [HS]
  · isplitr; · iexact HR
    iexact HS
  iintro HS
  iapply (wp_snd m ρ K c 3 _ (dev11_eq c) _) $$ [HS]
  · isplitr; · iexact HR
    iexact HS
  iintro HS
  iapply (wp_snd m ρ K c 4 _ (dev12_eq c) _) $$ [HS]
  · isplitr; · iexact HR
    iexact HS
  iintro HS
  iapply (wp_snd m ρ K c 5 _ (dev13_eq c) _) $$ [HS]
  · isplitr; · iexact HR
    iexact HS
  iintro HS
  iapply (wp_snd m ρ K c 6 _ (dev14_eq c) _) $$ [HS]
  · isplitr; · iexact HR
    iexact HS
  iintro HS
  iapply (wp_load 𝒱₀ (c : Thread nD τ) none Set.univ (m := swM) (Finset.subset_univ _)) $$ Hsw; iintro Hsw
  rw [read_sw]
  iapply (wp_load 𝒱₀ (c : Thread nD τ) none Set.univ (m := oM) (Finset.subset_univ _)) $$ Hout; iintro Hout
  iapply (wp_store_out m ρ c _ _ (by rfl)) $$ Hout; iintro Hout
  rw [show ((6 : Fin 7) : ℕ) + 1 = 7 from rfl]
  unfold sndSt
  icases HS with ⟨HO, HS⟩
  ihave HcS := (Entails.of_eq (phase_seven (sndA m ρ c) (sndB (F := F) c))) $$ HS
  ihave HO := (Entails.of_eq (congrArg (fun O => owes (c : Thread nD τ) O _) (oweSnd_seven c))) $$ HO
  ihave HS := (rcv_enter m ρ c _) $$ [HO HcR HatR Hout]
  · isplitl [HO]; · iexact HO
    isplitl [HcR]; · iexact HcR
    isplitl [HatR] <;> iassumption
  iapply (wp_rcv m ρ K c 0 (by intro o s; rfl)) $$ [HS]
  · isplitr; · iexact HR
    iexact HS
  iintro HS
  iapply (wp_rcv m ρ K c 1 (by intro o s; rfl)) $$ [HS]
  · isplitr; · iexact HR
    iexact HS
  iintro HS
  iapply (wp_rcv m ρ K c 2 (by intro o s; rfl)) $$ [HS]
  · isplitr; · iexact HR
    iexact HS
  iintro HS
  iapply (wp_rcv m ρ K c 3 (by intro o s; rfl)) $$ [HS]
  · isplitr; · iexact HR
    iexact HS
  iintro HS
  iapply (wp_rcv m ρ K c 4 (by intro o s; rfl)) $$ [HS]
  · isplitr; · iexact HR
    iexact HS
  iintro HS
  iapply (wp_rcv m ρ K c 5 (by intro o s; rfl)) $$ [HS]
  · isplitr; · iexact HR
    iexact HS
  iintro HS
  iapply (wp_rcv m ρ K c 6 (by intro o s; rfl)) $$ [HS]
  · isplitr; · iexact HR
    iexact HS
  iintro HS
  rw [show ((6 : Fin 7) : ℕ) + 1 = 7 from rfl]
  unfold rcvSt
  icases HS with ⟨HO, HS, Hout⟩
  ihave HzR := (Entails.of_eq ((phase_seven (rcvA (F := F) c) (rcvB m ρ c)).trans (bigSep_sep' _ (fun k => semVal (recvCell c k) 0) (fun k => slotPts c k (landed m ρ c k))))) $$ HS
  ihave HS := (fin_enter m ρ c) $$ [HO HcS HatS]
  · isplitl [HO]; · iexact HO
    isplitl [HcS] <;> iassumption
  iapply (wp_fin m ρ K c 0) $$ [HS]
  · isplitr; · iexact HR
    iexact HS
  iintro HS
  iapply (wp_fin m ρ K c 1) $$ [HS]
  · isplitr; · iexact HR
    iexact HS
  iintro HS
  iapply (wp_fin m ρ K c 2) $$ [HS]
  · isplitr; · iexact HR
    iexact HS
  iintro HS
  iapply (wp_fin m ρ K c 3) $$ [HS]
  · isplitr; · iexact HR
    iexact HS
  iintro HS
  iapply (wp_fin m ρ K c 4) $$ [HS]
  · isplitr; · iexact HR
    iexact HS
  iintro HS
  iapply (wp_fin m ρ K c 5) $$ [HS]
  · isplitr; · iexact HR
    iexact HS
  iintro HS
  iapply (wp_fin m ρ K c 6) $$ [HS]
  · isplitr; · iexact HR
    iexact HS
  iintro HS
  rw [show ((6 : Fin 7) : ℕ) + 1 = 7 from rfl]
  unfold finSt
  icases HS with ⟨⟨%W', HO⟩, HS⟩
  ihave HzS := (Entails.of_eq ((phase_seven (finA (F := F) c) (finB m ρ c)).trans (bigSep_sep' _ (fun k => semVal (sendCell c k) 0) (sentPts m ρ c)))) $$ HS
  icases HzS with ⟨HzS, Hst⟩
  icases HzR with ⟨HzR, Hsl⟩
  ihave Hs := (sent_join m ρ c) $$ [Hs0 Hst]
  · isplitl [Hs0] <;> iassumption
  ihave Hr := (slots_join m ρ c) $$ Hsl
  rw [wp_ret]; imodintro
  iapply Hk
  unfold bodyPost Φ₁ zeros Dat.owesAt Pipeline.owesWithin
  rw [show (dats m ρ 0 c).owed t₀.succ = 0 from rfl]
  isplitl [Hs Hr HzB HzS HzR]
  · isplitl [Hs]; · iexists _; iexact Hs
    isplitl [Hr]; · iexact Hr
    isplitl [HzB]; · iexact HzB
    isplitl [HzS] <;> iassumption
  isplitl [HO]
  · iexists W'
    isplitr; · ipureintro; exact fun _ _ => Or.inl trivial
    iexact HO
  isplitl [Hx]; · (iexists _; isplitr; · (ipureintro; rfl)); iexact Hx
  isplitl [Hrw]; · (iexists _; isplitr; · (ipureintro; rfl)); iexact Hrw
  isplitl [Hix]; · (iexists _; isplitr; · (ipureintro; rfl)); iexact Hix
  isplitl [Hew]; · (iexists _; isplitr; · (ipureintro; rfl)); iexact Hew
  isplitl [Hsw]; · (iexists _; isplitr; · (ipureintro; rfl)); iexact Hsw
  iexists _; isplitr; · (ipureintro; rfl)
  iexact Hout

set_option maxRecDepth 4000 in
/-- The body at its grid point, as the pipeline asks for it. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) (fun _ => bodyPost m ρ c)
  iintro H
  iapply (sound_body m ρ c fun _ => bodyPost m ρ c)
  isplitl [H]; · iexact H
  iintro H; iexact H

end Cert.Moe

end
-- ==== Proof.Run.lean ====
/-
# The run of @main

The cells funded at launch, every device's barrier, send and receive cells allocated, the tokens dealt to the devices
that pay with them, and the launch theorem applied: every fair execution terminates, each array ends at its computed
contents and every semaphore counter at zero.
-/
module

public import proofs.«01_k».proof.Proof.Body
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The call's own semaphores are its fourteen. -/
theorem ownSemFacts : Pipeline.OwnSemFacts cfg0.spec osem := by decide
/-- Every window is held in full. -/
theorem share_eq (c : Dev nD) (w : Fin cfg0.W) : (dats m ρ 0 c).share w = fullShare := by unfold Dat.share; split <;> rfl

/-! ### Families over the fifteen cells and the fourteen own semaphores -/

def iSe : Fin 7 ↪ Fin 15 := ⟨iS, fun a b h => by revert a b; decide⟩
def iRe : Fin 7 ↪ Fin 15 := ⟨iR, fun a b h => by revert a b; decide⟩
def oSe : Fin 7 ↪ Fin 14 := ⟨fun k => ⟨k.val, by omega⟩, fun a b h => by revert a b; decide⟩
def oRe : Fin 7 ↪ Fin 14 := ⟨fun k => ⟨k.val + 7, by omega⟩, fun a b h => by revert a b; decide⟩

omit [FloatOps F] in
/-- A family over a device's fifteen cells: barrier, sends, receives. -/
theorem bigSep_fin15 (Φ : Fin 15 → sProp 𝕄) :
    bigSep Finset.univ Φ = iprop(Φ 0 ∗ (bigSep Finset.univ fun k => Φ (iS k)) ∗ bigSep Finset.univ fun k => Φ (iR k)) := by
  rw [show (Finset.univ : Finset (Fin 15)) = insert 0 (Finset.univ.map iSe ∪ Finset.univ.map iRe) by decide, bigSep_insert (by decide),
    bigSep_union (by decide), bigSep_map, bigSep_map]
  rfl
omit [FloatOps F] in
/-- A family over the fourteen own semaphores: sends, receives. -/
theorem bigSep_fin14 (Φ : Fin 14 → sProp 𝕄) :
    bigSep Finset.univ Φ = iprop((bigSep Finset.univ fun k => Φ (oSe k)) ∗ bigSep Finset.univ fun k => Φ (oRe k)) := by
  rw [show (Finset.univ : Finset (Fin 14)) = Finset.univ.map oSe ∪ Finset.univ.map oRe by decide, bigSep_union (by decide), bigSep_map, bigSep_map]
  rfl
/-- The own semaphores of the sends. -/
theorem osem_send (k : Fin 7) : osem (oSe k) = .dma (sendS k) := by revert k; decide
/-- The own semaphores of the receives. -/
theorem osem_recv (k : Fin 7) : osem (oRe k) = .dma (recvS k) := by revert k; decide

omit [FloatOps F] in
/-- A family over the cells of a device, by kind. -/
theorem cells_eq (Φ : GSem nD τ sig → sProp 𝕄) (c : Dev nD) :
    (bigSep Finset.univ fun k : Fin 15 => Φ (kcell (c, k)))
      = iprop(Φ (barCell c) ∗ (bigSep Finset.univ fun k => Φ (sendCell c k)) ∗ bigSep Finset.univ fun k => Φ (recvCell c k)) := by
  rw [bigSep_fin15]
  simp only [kcell, csem_bar, csem_send, csem_recv]

/-- A device's cells are distinct. -/
theorem csem_injective : Function.Injective csem := by decide
/-- All cells are distinct. -/
theorem kcell_injective : Function.Injective (kcell : Dev nD × Fin 15 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-! ### The tokens -/

/-- A device's own cells' duty tokens as minted: the barrier's seven, each send cell's, each receive cell's. -/
def tsem (x : Fin 3 × Fin 7) : SemLoc sig × Fin 7 :=
  if x.1.val = 0 then (.reg barS, x.2) else if x.1.val = 1 then (.dma (sendS x.2), 0) else (.dma (recvS x.2), 0)
/-- A device's tokens are distinct. -/
theorem tsem_injective : Function.Injective tsem := by decide
def tokOf (cj : Dev nD × (Fin 3 × Fin 7)) : GSem nD τ sig × ℕ × Fin 7 := (((cj.1 : Thread nD τ), (tsem cj.2).1), 0, (tsem cj.2).2)
/-- All tokens are distinct. -/
theorem tokOf_injective : Function.Injective tokOf := by
  rintro ⟨c, j⟩ ⟨c', j'⟩ h
  have h1 : c = c' := congrArg (fun x : GSem nD τ sig × ℕ × Fin 7 => x.1.1.1) h
  have h2 : j = j' := tsem_injective (congrArg (fun x : GSem nD τ sig × ℕ × Fin 7 => (x.1.2, x.2.2)) h)
  rw [h1, h2]
def ringToks : Finset (GSem nD τ sig × ℕ × Fin 7) := Finset.univ.map ⟨tokOf, tokOf_injective⟩

def u₀ : UU := (initOf (Pipeline.cells cfgs cellOf_inj) (Pipeline.launchToks cfgs cellOf_inj), initOf ringCells ringToks)

def toks (c : Dev nD) : sProp 𝕄 :=
  iprop((bigSep Finset.univ fun k => dutyTok ER (barCell c) 0 k) ∗ (bigSep Finset.univ fun k => dutyTok ER (sendCell c k) 0 0)
    ∗ bigSep Finset.univ fun k => dutyTok ER (recvCell c k) 0 0)
def payToks (c : Dev nD) : sProp 𝕄 :=
  iprop((bigSep Finset.univ fun k => dutyTok ER (barCell (fwd k c)) 0 (opp k)) ∗ (bigSep Finset.univ fun k => dutyTok ER (sendCell c k) 0 0)
    ∗ bigSep Finset.univ fun k => dutyTok ER (recvCell (fwd k c) k) 0 0)

def G (c : Dev nD) : sProp 𝕄 :=
  iprop((bigSep Finset.univ fun k : Fin 15 => roundState ER (ringRd m ρ) (kcell (c, k)) 0)
    ∗ (bigSep Finset.univ fun k : Fin 15 => iprop(atPos ER (kcell (c, k)) 0 ∅ 0 ∗ reached ER (kcell (c, k)) 0)) ∗ toks c)
def G' (c : Dev nD) : sProp 𝕄 := iprop(∃ K, records m ρ K ∗ linear c)

omit [FloatOps F] in
/-- A family over three. -/
theorem bigSep_fin3 (Φ : Fin 3 → sProp 𝕄) : bigSep Finset.univ Φ = iprop(Φ 0 ∗ Φ 1 ∗ Φ 2) := bigSep_univ_eq_bigSepL [0, 1, 2] (by decide) (by decide) Φ

/-- The protocol's initial state gives every device its part. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, bigSep_fin3]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The own semaphores at zero are the send and receive cells at zero. -/
theorem ownSems0_eq (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ bigSep Finset.univ fun k => semVal (recvCell c k) 0) := by
  show (bigSep Finset.univ fun i : Fin 14 => semVal ((c : Thread nD τ), osem i) 0 : sProp 𝕄) = _
  rw [bigSep_fin14]
  simp only [osem_send, osem_recv]
omit [FloatOps F] in
/-- The barrier is the one semaphore outside the call. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together they are the fifteen cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, cells_eq (fun g => semVal g 0)]
  iintro ⟨⟨HS, HV⟩, HB⟩
  isplitl [HB]; · iexact HB
  isplitl [HS] <;> iassumption

/-- One device's cells are put under their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt: each barrier token to the device that pays it, each receive token to the device whose transfer it is. -/
theorem toks_around : (bigSep Finset.univ fun c : Dev nD => (toks c : sProp 𝕄)) ⊢ bigSep Finset.univ fun c : Dev nD => payToks c := by
  have h1 : (bigSep Finset.univ fun c : Dev nD => bigSep Finset.univ fun k : Fin 7 => (dutyTok ER (barCell c) 0 k : sProp 𝕄))
      = bigSep Finset.univ fun c : Dev nD => bigSep Finset.univ fun k : Fin 7 => (dutyTok ER (barCell (fwd k c)) 0 (opp k) : sProp 𝕄) := by
    rw [bigSep_univ_comm, bigSep_univ_comm (fun (c : Dev nD) (k : Fin 7) => (dutyTok ER (barCell (fwd k c)) 0 (opp k) : sProp 𝕄)),
      bigSep_univ_equiv oppE]
    exact bigSep_congr fun k _ => bigSep_univ_equiv (ring k) (fun c : Dev nD => (dutyTok ER (barCell c) 0 (opp k) : sProp 𝕄))
  have h2 : (bigSep Finset.univ fun c : Dev nD => bigSep Finset.univ fun k : Fin 7 => (dutyTok ER (recvCell c k) 0 0 : sProp 𝕄))
      = bigSep Finset.univ fun c : Dev nD => bigSep Finset.univ fun k : Fin 7 => (dutyTok ER (recvCell (fwd k c) k) 0 0 : sProp 𝕄) := by
    rw [bigSep_univ_comm, bigSep_univ_comm (fun (c : Dev nD) (k : Fin 7) => (dutyTok ER (recvCell (fwd k c) k) 0 0 : sProp 𝕄))]
    exact bigSep_congr fun k _ => bigSep_univ_equiv (ring k) (fun c : Dev nD => (dutyTok ER (recvCell c k) 0 0 : sProp 𝕄))
  unfold toks payToks
  rw [bigSep_sep', bigSep_sep', bigSep_sep', bigSep_sep', h1, h2]

/-- A fact that may be used again is used for every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's positions and tokens, collected. -/
theorem linear_intro (c : Dev nD) : iprop((bigSep Finset.univ fun k : Fin 15 => atPos ER (kcell (c, k)) 0 ∅ 0) ∗ payToks c) ⊢ (linear c : sProp 𝕄) := by
  unfold linear payToks
  rw [cells_eq (fun g => atPos ER g 0 ∅ 0)]
  iintro ⟨⟨H1, H2, H3⟩, H4, H5, H6⟩
  isplitl [H1]; · iexact H1
  isplitl [H2]; · iexact H2
  isplitl [H3]; · iexact H3
  isplitl [H4]; · iexact H4
  isplitl [H5] <;> iassumption

/-- Every device has what it starts with, and knows every cell's invariant. -/
theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 15 => iprop(∃ κ : ℕ, cellInv ER (ringRd m ρ) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) (Φ := fun c => linear c) fun c _ => by
    show (_ : sProp 𝕄) ⊢ _
    unfold G'; iintro H; iexists K; iexact H)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄)) payToks).symm).trans
      (bigSep_mono fun c _ => linear_intro c))
    isplitl [Hat]; · iexact Hat
    iexact Htk

/-- All devices' cells are put under their invariants at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What device `d` owes to one cell. -/
theorem owed_apply (d : Dev nD) (g : GSem nD τ sig) : O₀ d g ()
    = (∑ j : Fin 7, if g = recvCell (fwd j d) j then N else 0) + ∑ j : Fin 7, if g = barCell (fwd j d) then 1 else 0 := by
  unfold O₀ oweSig oweSnd
  rw [fromK_zero, Pi.add_apply, Finsupp.add_apply, sum_tally_apply, sum_tally_apply]
  simp only [tallyAt_apply, and_true]

/-- Equal cells have equal devices and semaphores. -/
theorem cell_eq {a b : Dev nD} {sm sm' : SemLoc sig} (h : (((a : Thread nD τ), sm) : GSem nD τ sig) = ((b : Thread nD τ), sm')) : a = b ∧ sm = sm' :=
  ⟨congrArg (fun g : GSem nD τ sig => g.1.1) h, congrArg Prod.snd h⟩
/-- The receive semaphores are distinct. -/
theorem recvS_injective : Function.Injective recvS := by decide

/-- A barrier cell is no receive cell. -/
theorem bar_ne_recv (a b : Dev nD) (k : Fin 7) : barCell a ≠ recvCell b k := fun h => nomatch (cell_eq h).2

/-- All devices together owe seven signals to a barrier cell. -/
theorem owed_bar (c : Dev nD) : ∑ d : Dev nD, O₀ d (barCell c) () = 7 := by
  have h : ∀ d : Dev nD, O₀ d (barCell c) () = ∑ j : Fin 7, if d = bwd j c then 1 else 0 := fun d => by
    rw [owed_apply, Finset.sum_eq_zero (s := Finset.univ) (f := fun j : Fin 7 => if barCell c = recvCell (fwd j d) j then N else 0)
      (fun j _ => if_neg (bar_ne_recv c (fwd j d) j)), Nat.zero_add]
    refine Finset.sum_congr rfl fun j _ => ?_
    by_cases h : d = bwd j c
    · subst h; rw [fwd_bwd, if_pos rfl, if_pos rfl]
    · rw [if_neg (fun h1 => h (by rw [(cell_eq h1).1, bwd_fwd])), if_neg h]
  rw [Finset.sum_congr rfl fun d _ => h d, Finset.sum_comm,
    Finset.sum_congr rfl fun j _ => (Finset.sum_ite_eq' Finset.univ (bwd j c) fun _ => 1).trans (if_pos (Finset.mem_univ _)),
    Finset.sum_const, Finset.card_univ, Fintype.card_fin, smul_eq_mul]
/-- All devices together owe one copy to a receive cell. -/
theorem owed_recv (c : Dev nD) (k : Fin 7) : ∑ d : Dev nD, O₀ d (recvCell c k) () = N := by
  have h : ∀ d : Dev nD, O₀ d (recvCell c k) () = if d = bwd k c then N else 0 := fun d => by
    rw [owed_apply, Finset.sum_eq_zero (s := Finset.univ) (f := fun j : Fin 7 => if recvCell c k = barCell (fwd j d) then 1 else 0)
      (fun j _ => if_neg fun h => bar_ne_recv (fwd j d) c k h.symm), Nat.add_zero,
      Finset.sum_eq_single k (fun j _ hj => if_neg fun h => hj (recvS_injective (by have := (cell_eq h).2; exact (SemLoc.dma.inj this).symm))) (fun h => absurd (Finset.mem_univ _) h)]
    by_cases h : d = bwd k c
    · subst h; rw [fwd_bwd, if_pos rfl, if_pos rfl]
    · rw [if_neg (fun h1 => h (by rw [(cell_eq h1).1, bwd_fwd])), if_neg h]
  rw [Finset.sum_congr rfl fun d _ => h d, Finset.sum_ite_eq' Finset.univ (bwd k c) fun _ => N, if_pos (Finset.mem_univ _)]

/-- The launch credits a barrier cell with seven. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, owed_bar]
/-- The launch credits a receive cell with one copy. -/
theorem launch_recv (c : Dev nD) (k : Fin 7) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, owed_recv]

def recvE : Fin 7 ↪ SemLoc sig := ⟨fun k => .dma (recvS k), fun a b h => recvS_injective (SemLoc.dma.inj h)⟩

/-- The credits a device is launched with. -/
theorem creds (c : Dev nD) : (Pipeline.launchCred O₀ c : sProp 𝕄) ⊢ credits c := by
  unfold Pipeline.launchCred credits
  refine (bigSep_subset (Finset.subset_univ (insert (SemLoc.reg barS) (Finset.univ.map recvE)))).trans ?_
  rw [bigSep_insert (by decide), bigSep_map]
  show iprop(cred (tallyOn (barCell c) (launchCredit (Pipeline.owing O₀) 0 (barCell c)))
    ∗ bigSep Finset.univ fun k => cred (tallyOn (recvCell c k) (launchCredit (Pipeline.owing O₀) 0 (recvCell c k)))) ⊢ _
  simp only [launch_bar, launch_recv]
  exact Entails.refl _

/-! ### The theorem's side conditions -/

/-- What the launch gives a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- With the scratch buffers this is the state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hp, Hn⟩
  isplitl [Hs]; · iexact Hs
  isplitl [Hp] <;> iassumption

/-- The state after the body gives the scratch buffers and semaphores back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ zeros
  iintro ⟨Hs, Hr, HB, HS, HV⟩
  isplitl [HB]; · iexact HB
  isplitl [HS HV]
  · isplitl [HS] <;> iassumption
  isplitl [Hs] <;> iassumption

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, with each device's result array at the computed contents, its arguments unchanged and
    every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The tokens end unchanged. -/
theorem finalA_in0 (c : Dev nD) : finalA m ρ c (0 : Fin 6) = (s₀ m ρ).mem (win0_0.arr.view.loc (c : Thread nD τ)) := (dats (F := F) m ρ 0 c).arrAt_in (0 : Fin 6) rfl _
/-- The router's weights end unchanged. -/
theorem finalA_in1 (c : Dev nD) : finalA m ρ c (1 : Fin 6) = (s₀ m ρ).mem (win0_1.arr.view.loc (c : Thread nD τ)) := (dats (F := F) m ρ 0 c).arrAt_in (1 : Fin 6) rfl _
/-- The experts' indices end unchanged. -/
theorem finalA_in2 (c : Dev nD) : finalA m ρ c (2 : Fin 6) = (s₀ m ρ).mem (win0_2.arr.view.loc (c : Thread nD τ)) := (dats (F := F) m ρ 0 c).arrAt_in (2 : Fin 6) rfl _
/-- The experts' matrices end unchanged. -/
theorem finalA_in3 (c : Dev nD) : finalA m ρ c (3 : Fin 6) = (s₀ m ρ).mem (win0_3.arr.view.loc (c : Thread nD τ)) := (dats (F := F) m ρ 0 c).arrAt_in (3 : Fin 6) rfl _
/-- The shared weights end unchanged. -/
theorem finalA_in4 (c : Dev nD) : finalA m ρ c (4 : Fin 6) = (s₀ m ρ).mem (win0_4.arr.view.loc (c : Thread nD τ)) := (dats (F := F) m ρ 0 c).arrAt_in (4 : Fin 6) rfl _

end Cert.Moe

end
-- ==== Proof.Frames.lean ====
/-
# The frames

Each program terminates with its arguments unchanged and its counters at zero: the kernel's run read at the five
input windows, at the bit-exact values and at the ideal ones; the reference's from its operations' run.
-/
module

public import proofs.«01_k».proof.Defs
public import proofs.«01_k».proof.Proof.Run
public import proofs.«01_k».proof.Proof.Gen.Kernel

public import proofs.«01_k».proof.Proof.Gen.ReferenceIdeal.Run

@[expose] public section

noncomputable section

namespace Cert.Moe

open Idealize.ShloMosaic Idealize.SL.Sem

/-- The two printed programs have one text: their configurations, their body tables and so their definitions agree. -/
theorem cfg_eq : Cert.Kernel.cfg0 = Cert.KernelIdeal.cfg0 := by
  unfold Cert.Kernel.cfg0 Cert.KernelIdeal.cfg0
  rfl
/-- The two programs have the same bodies. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
/-- The two programs have the same pipelines. -/
theorem pcfgs_eq : Cert.Kernel.pcfgs (F := Bits) = Cert.KernelIdeal.pcfgs (F := Bits) := by
  unfold Cert.Kernel.pcfgs Cert.KernelIdeal.pcfgs
  rfl
/-- The two programs have the same definitions. -/
theorem defs_eq : Cert.Kernel.defs (F := Bits) = Cert.KernelIdeal.defs (F := Bits) := by
  unfold Cert.Kernel.defs Cert.KernelIdeal.defs
  rw [defs₀_eq]
  rfl

/-- The kernel ends without fault, its arguments unchanged and its semaphores at zero. -/
theorem frame_kernel : Cert.quiescent_Kernel := fun m ρ _ => by
  rw [defs_eq]
  exact (θ_run Cert.KernelIdeal.defs _ _).mono
    (fun _ h => ⟨fun c => ⟨(h.1 c (0 : Fin 6)).trans (finalA_in0 m ρ c), (h.1 c (1 : Fin 6)).trans (finalA_in1 m ρ c),
      (h.1 c (2 : Fin 6)).trans (finalA_in2 m ρ c), (h.1 c (3 : Fin 6)).trans (finalA_in3 m ρ c), (h.1 c (4 : Fin 6)).trans (finalA_in4 m ρ c)⟩, h.2⟩)
    (run_main (F := Bits) m ρ)

/-- So does the kernel over the extended reals. -/
theorem frame_kernelIdeal : Cert.quiescent_KernelIdeal := fun m ρ _ =>
  (θ_run Cert.KernelIdeal.defs _ _).mono
    (fun _ h => ⟨fun c => ⟨(h.1 c (0 : Fin 6)).trans (finalA_in0 m ρ c), (h.1 c (1 : Fin 6)).trans (finalA_in1 m ρ c),
      (h.1 c (2 : Fin 6)).trans (finalA_in2 m ρ c), (h.1 c (3 : Fin 6)).trans (finalA_in3 m ρ c), (h.1 c (4 : Fin 6)).trans (finalA_in4 m ρ c)⟩, h.2⟩)
    (run_main (F := Ideal) m ρ)

/-- So does the reference over the extended reals. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Moe

end
-- ==== Proof.Rank.lean ====
module

public import proofs.«01_k».proof.Proof.Protocol
public import Idealize.ShloMosaic.Lib.Pointwise

/-! The rank of a token among those of its owner, as the kernel counts it: block by block, by products with a strictly lower triangular matrix of ones, in floats. It is the number of earlier tokens with the same owner. -/

@[expose] public section

set_option maxRecDepth 16384

noncomputable section

namespace Cert.Moe

open Cert.KernelIdeal Cert.KernelIdeal.Gen
open Idealize.ShloMosaic Idealize.ShloMosaic.TcCoe Idealize.SL.Sem

/-- A one-bit test made a number is one where the test holds and zero elsewhere. -/
theorem sitofp_bit (φ : FTy) (b : BitVec 1) :
    FloatOps.sitofp (F := Ideal) φ (BitVec.setWidth 32 b) = if b = 1#1 then 1 else 0 := by
  have h : b = 0#1 ∨ b = 1#1 := by revert b; decide
  show (((BitVec.setWidth 32 b).toInt : ℝ) : EReal) = _
  rcases h with rfl | rfl
  · have : (BitVec.setWidth 32 (0#1)).toInt = 0 := by decide
    rw [this, if_neg (by decide)]; simp
  · have : (BitVec.setWidth 32 (1#1)).toInt = 1 := by decide
    rw [this, if_pos rfl]; simp

/-- The comparison's bit is one where the words are equal. -/
theorem cmpi_eq_one {w : ℕ} (a b : BitVec w) : IntOp.cmpi .eq a b = 1#1 ↔ a = b := by
  show BitVec.ofBool (a == b) = 1#1 ↔ _
  by_cases h : a = b
  · simp [h]
  · have e : (a == b) = false := by simpa using h
    rw [e]; exact ⟨fun h => absurd h (by decide), fun h' => absurd h' h⟩

/-- A small number's word is that number. -/
theorem toInt_small {n : ℕ} (h : n < 2 ^ 31) : (BitVec.ofNat 32 n).toInt = n := by
  rw [BitVec.toInt_eq_toNat_of_lt (by rw [BitVec.toNat_ofNat]; omega), BitVec.toNat_ofNat]
  congr 1; omega

/-- Small numbers with the same word are the same. -/
theorem ofNat_inj_small {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat] at this; omega
  · rintro rfl; rfl

/-- A natural number below 2^31 read back as a word is itself. -/
theorem fptosi_nat {n : ℕ} (h : n < 2 ^ 31) : FloatOps.fptosi (F := Ideal) (φ := .f32) 32 ((n : ℝ) : EReal) = BitVec.ofNat 32 n := by
  show Ideal.fptosi 32 _ = _
  rw [Ideal.fptosi, Ideal.toIntClamped_coe, if_pos (Nat.cast_nonneg n), Int.floor_natCast]
  rw [max_eq_right, min_eq_right]
  · exact BitVec.ofInt_natCast 32 n
  · norm_num; omega
  · rw [le_min_iff]; constructor <;> norm_num

/-- The owners as rows: one at the owner, zero elsewhere. -/
theorem pay5_at (v : IVec S2048x1 32) (t : Fin 2048) (d : Fin 8) :
    k0_pay5 (F := Ideal) v (ix2 t d) = if v (ix2 t 0) = BitVec.ofNat 32 d.val then 1 else 0 := by
  pointwise [k0_pay5]
  rw [sitofp_bit]; simp only [cmpi_eq_one]

/-- The strictly lower triangular matrix. -/
theorem pay6_at (r k : Fin 512) :
    k0_pay6 (F := Ideal) (ix2 r k) = if k.val < r.val then 1 else 0 := by
  pointwise [k0_pay6]
  rw [sitofp_bit]
  have hr := r.isLt; have hk := k.isLt
  have : IntOp.cmpi .sgt (BitVec.ofNat 32 r.val) (BitVec.ofNat 32 k.val) = 1#1 ↔ k.val < r.val := by
    show BitVec.ofBool (BitVec.slt _ _) = 1#1 ↔ _
    rw [BitVec.slt, toInt_small (by omega), toInt_small (by omega)]
    by_cases h : k.val < r.val
    · simp [h]
    · simp [h]
  simp only [this]

/-- How many of the first `n` tokens have owner `d`. -/
def cntE (v : IVec S2048x1 32) (n d : ℕ) : EReal :=
  ∑ t : Fin 2048, if t.val < n ∧ v (ix2 t 0) = BitVec.ofNat 32 d then 1 else 0

/-- A row of owner `d0` picks the entry `d0`. -/
theorem pick (A : Fin 8 → EReal) (w : BitVec 32) (d0 : Fin 8) (h : w = BitVec.ofNat 32 d0.val) :
    (∑ d : Fin 8, A d * if w = BitVec.ofNat 32 d.val then 1 else 0) = A d0 := by
  rw [Finset.sum_eq_single d0]
  · rw [if_pos h, mul_one]
  · intro d _ hd
    rw [if_neg, mul_zero]
    rw [h, ofNat_inj_small (by omega) (by omega)]
    exact fun h => hd (Fin.ext h.symm)
  · intro h; exact absurd (Finset.mem_univ _) h

/-- The tokens of owner `d` among the 512 from `o` on … -/
def full (v : IVec S2048x1 32) (d o : ℕ) (ho : o + 512 ≤ 2048) : EReal :=
  ∑ k : Fin 512, if v (ix2 ⟨o + k.val, by omega⟩ 0) = BitVec.ofNat 32 d then 1 else 0
/-- … those of them below `n` … -/
def part (v : IVec S2048x1 32) (n d o : ℕ) (ho : o + 512 ≤ 2048) : EReal :=
  ∑ k : Fin 512, if o + k.val < n ∧ v (ix2 ⟨o + k.val, by omega⟩ 0) = BitVec.ofNat 32 d then 1 else 0
/-- … and those before the `r`-th, as a row of a strictly lower triangular product. -/
def low (v : IVec S2048x1 32) (r d o : ℕ) (ho : o + 512 ≤ 2048) : EReal :=
  ∑ k : Fin 512, (if k.val < r then (1 : EReal) else 0) * if v (ix2 ⟨o + k.val, by omega⟩ 0) = BitVec.ofNat 32 d then 1 else 0

/-- A count is the sum of its parts in the four blocks. -/
theorem cntE_split (v : IVec S2048x1 32) (n d : ℕ) :
    cntE v n d = part v n d 0 (by omega) + part v n d 512 (by omega) + part v n d 1024 (by omega) + part v n d 1536 (by omega) := by
  unfold cntE
  rw [Fin.sum_univ_tiles 4 512 rfl, Fin.sum_univ_four]
  rfl

/-- A block before the token counts in full. -/
theorem part_full (v : IVec S2048x1 32) (n d o : ℕ) (ho : o + 512 ≤ 2048) (h : o + 512 ≤ n) : part v n d o ho = full v d o ho :=
  Finset.sum_congr rfl fun k _ => by
    have : o + k.val < n := by omega
    simp only [this, true_and]

/-- A block after the token does not count. -/
theorem part_none (v : IVec S2048x1 32) (n d o : ℕ) (ho : o + 512 ≤ 2048) (h : n ≤ o) : part v n d o ho = 0 :=
  Finset.sum_eq_zero fun k _ => by
    have : ¬ o + k.val < n := by omega
    simp only [this, false_and, if_false]

/-- In its own block only the earlier tokens count. -/
theorem part_low (v : IVec S2048x1 32) (r d o : ℕ) (ho : o + 512 ≤ 2048) : part v (o + r) d o ho = low v r d o ho :=
  Finset.sum_congr rfl fun k _ => by
    by_cases h : k.val < r
    · simp [h]
    · simp [h]

/-- The first block's count. -/
theorem full_zero (v : IVec S2048x1 32) (d : ℕ) :
    (∑ k : Fin 512, if v (ix2 ⟨k.val, by omega⟩ 0) = BitVec.ofNat 32 d then (1 : EReal) else 0) = full v d 0 (by omega) := by
  unfold full; simp only [Nat.zero_add]

/-- The rank of a token in the first block. -/
theorem pay9_at (v : IVec S2048x1 32) (r : Fin 512) (d : Fin 8) (h : v (ix2 ⟨r.val, by omega⟩ 0) = BitVec.ofNat 32 d.val) :
    k0_pay9 (F := Ideal) v (ix2 r 0) = cntE v r.val d.val := by
  pointwise [k0_pay9, k0_pay8, k0_pay7]
  simp only [pay5_at, pay6_at]
  rw [pick _ _ d h, cntE_split, part_none _ _ _ 512 _ (by omega), part_none _ _ _ 1024 _ (by omega), part_none _ _ _ 1536 _ (by omega),
    add_zero, add_zero, add_zero]
  have := part_low v r.val d.val 0 (by omega)
  rw [Nat.zero_add] at this
  rw [this]; unfold low; simp only [Nat.zero_add]

/-- The count of the first block. -/
theorem pay10_at (v : IVec S2048x1 32) (d : Fin 8) : k0_pay10 (F := Ideal) v (ix2 0 d) = full v d.val 0 (by omega) := by
  pointwise [k0_pay10, k0_pay8, k0_pay7]
  simp only [pay5_at]; exact full_zero v d.val

/-- The count of the first two blocks. -/
theorem pay13_at (v : IVec S2048x1 32) (d : Fin 8) :
    k0_pay13 (F := Ideal) v (ix2 0 d) = full v d.val 0 (by omega) + full v d.val 512 (by omega) := by
  pointwise [k0_pay13, k0_pay11]
  simp only [pay5_at, pay10_at]; rfl

/-- The rank of a token in the second block. -/
theorem pay12_at (v : IVec S2048x1 32) (r : Fin 512) (d : Fin 8) (h : v (ix2 ⟨512 + r.val, by omega⟩ 0) = BitVec.ofNat 32 d.val) :
    k0_pay12 (F := Ideal) v (ix2 r 0) = cntE v (512 + r.val) d.val := by
  pointwise [k0_pay12, k0_pay11]
  simp only [pay5_at, pay6_at, pay10_at]
  rw [pick _ _ d h, cntE_split, part_full _ _ _ 0 _ (by omega), part_low _ _ _ 512, part_none _ _ _ 1024 _ (by omega), part_none _ _ _ 1536 _ (by omega),
    add_zero, add_zero, add_comm]
  rfl

/-- The rank of a token in the third block. -/
theorem pay15_at (v : IVec S2048x1 32) (r : Fin 512) (d : Fin 8) (h : v (ix2 ⟨1024 + r.val, by omega⟩ 0) = BitVec.ofNat 32 d.val) :
    k0_pay15 (F := Ideal) v (ix2 r 0) = cntE v (1024 + r.val) d.val := by
  pointwise [k0_pay15, k0_pay14]
  simp only [pay5_at, pay6_at, pay13_at]
  rw [pick _ _ d h, cntE_split, part_full _ _ _ 0 _ (by omega), part_full _ _ _ 512 _ (by omega), part_low _ _ _ 1024, part_none _ _ _ 1536 _ (by omega),
    add_zero, add_comm]
  rfl

/-- The rank of a token in the fourth block. -/
theorem last_at (v : IVec S2048x1 32) (r : Fin 512) (d : Fin 8) (h : v (ix2 ⟨1536 + r.val, by omega⟩ 0) = BitVec.ofNat 32 d.val) :
    (∑ x : Fin 8, ((∑ k : Fin 512, k0_pay6 (F := Ideal) (ix2 r k) * k0_pay5 (F := Ideal) v (ix2 ⟨1536 + k.val, by omega⟩ x) +
        (k0_pay13 (F := Ideal) v (ix2 0 x) + ∑ k : Fin 512, k0_pay14 (F := Ideal) v (ix2 k x))) *
      k0_pay5 (F := Ideal) v (ix2 ⟨1536 + r.val, by omega⟩ x) : EReal)) = cntE v (1536 + r.val) d.val := by
  pointwise [k0_pay14]
  simp only [pay5_at, pay6_at, pay13_at]
  rw [pick _ _ d h, cntE_split, part_full _ _ _ 0 _ (by omega), part_full _ _ _ 512 _ (by omega), part_full _ _ _ 1024 _ (by omega), part_low _ _ _ 1536, add_comm]
  rfl

/-- How many of the tokens before `n` have the owner `d`, as a number. -/
def cnt (v : IVec S2048x1 32) (n d : ℕ) : ℕ :=
  (Finset.univ.filter fun t : Fin 2048 => t.val < n ∧ v (ix2 t 0) = BitVec.ofNat 32 d).card

/-- The float count is the number counted. -/
theorem cntE_eq (v : IVec S2048x1 32) (n d : ℕ) : cntE v n d = ((cnt v n d : ℝ) : EReal) := by
  unfold cntE cnt
  rw [Finset.sum_boole]
  rfl

/-- A count is at most the number of tokens. -/
theorem cnt_le (v : IVec S2048x1 32) (n d : ℕ) : cnt v n d ≤ 2048 := by
  unfold cnt
  exact (Finset.card_le_univ _).trans (by simp)

/-- A token of owner `d` stands behind the earlier tokens of that owner. -/
theorem rankV_at (ix : IVec S2048x1 32) (t : Fin 2048) (d : Fin 8) (h : ownerV (F := Ideal) ix (ix2 t 0) = BitVec.ofNat 32 d.val) :
    rankV (F := Ideal) ix (ix2 t 0) = BitVec.ofNat 32 (cnt (ownerV (F := Ideal) ix) t.val d.val) := by
  have hv : FloatOps.fptosi (F := Ideal) (φ := .f32) 32 (cntE (ownerV (F := Ideal) ix) t.val d.val) = BitVec.ofNat 32 (cnt (ownerV (F := Ideal) ix) t.val d.val) := by
    rw [cntE_eq]; exact fptosi_nat (lt_of_le_of_lt (cnt_le _ _ _) (by norm_num))
  rw [← hv]
  pointwise [rankV, k0_pay16]
  congr 1
  obtain ⟨t, ht⟩ := t
  generalize ownerV (F := Ideal) ix = v at h ⊢
  by_cases h0 : t < 512
  · rw [dif_pos h0]; exact pay9_at v ⟨t, h0⟩ d h
  rw [dif_neg h0]
  by_cases h1 : t - 512 < 512
  · rw [dif_pos h1]
    obtain ⟨r, rfl⟩ : ∃ r, t = 512 + r := ⟨t - 512, by omega⟩
    simp only [Nat.add_sub_cancel_left]
    exact pay12_at v ⟨r, by omega⟩ d h
  rw [dif_neg h1]
  by_cases h2 : t - 512 - 512 < 512
  · rw [dif_pos h2]
    obtain ⟨r, rfl⟩ : ∃ r, t = 1024 + r := ⟨t - 1024, by omega⟩
    have e : 1024 + r - 512 - 512 = r := by omega
    simp only [e]
    exact pay15_at v ⟨r, by omega⟩ d h
  rw [dif_neg h2]
  obtain ⟨r, rfl⟩ : ∃ r, t = 1536 + r := ⟨t - 1536, by omega⟩
  have e : 1536 + r - 512 - 512 - 512 = r := by omega
  simp only [e]
  exact last_at v ⟨r, by omega⟩ d h

end Cert.Moe
end
-- ==== Proof.Choose.lean ====
module

public import proofs.«01_k».proof.Proof.Rank

/-! The kernel's selection matrices. Under the capacity condition the tokens of one owner have distinct places below 320, so a product with the matrix picks one row, and one with its transpose puts it back. -/

@[expose] public section

set_option maxRecDepth 16384

noncomputable section

namespace Cert.Moe

open Cert.KernelIdeal Cert.KernelIdeal.Gen
open Idealize.ShloMosaic Idealize.ShloMosaic.TcCoe Idealize.SL.Sem

/-- A one-bit test made a number is one where the test holds and zero elsewhere. -/
theorem cmpi_bit {w : ℕ} (p : Prop) [Decidable p] (a b : BitVec w) (h : a = b ↔ p) : IntOp.cmpi .eq a b = if p then 1#1 else 0#1 := by
  by_cases hp : p
  · rw [if_pos hp]; exact (cmpi_eq_one a b).2 (h.2 hp)
  · rw [if_neg hp]
    have hn : IntOp.cmpi .eq a b ≠ 1#1 := fun e => hp (h.1 ((cmpi_eq_one a b).1 e))
    generalize IntOp.cmpi .eq a b = z at hn
    revert z; decide

/-- The place of token `t` among the tokens of device `d`. -/
def place (ix : IVec S2048x1 32) (d : Fin 8) (t : Fin 2048) : ℕ := cnt (ownerV (F := Ideal) ix) t.val d.val
/-- Device `d` holds token `t`'s expert. -/
def Owns (ix : IVec S2048x1 32) (d : Fin 8) (t : Fin 2048) : Prop := ownerV (F := Ideal) ix (ix2 t 0) = BitVec.ofNat 32 d.val
instance (ix : IVec S2048x1 32) (d : Fin 8) (t : Fin 2048) : Decidable (Owns ix d t) := by unfold Owns; infer_instance

/-- A device's table of its tokens: one in the row of a token and the column of its place. -/
theorem selW_at (ix : IVec S2048x1 32) (d : Fin 8) (t : Fin 2048) (c : Fin 320) :
    selW (F := Ideal) (BitVec.ofNat 32 d.val) ix (ix2 t c) = if Owns ix d t ∧ place ix d t = c.val then 1 else 0 := by
  pointwise [selW]
  rw [sitofp_bit]
  congr 1
  refine propext ?_
  by_cases h : Owns ix d t
  · rw [rankV_at ix t d h, (cmpi_eq_one _ _).2 h]
    change (IntOp.andi (IntOp.cmpi .eq (BitVec.ofNat 32 (place ix d t)) _) _ = 1#1 ↔ _)
    have hp : place ix d t ≤ 2048 := cnt_le _ _ _
    have hc := c.isLt
    rw [cmpi_bit (place ix d t = c.val) _ _ (ofNat_inj_small (by omega) (by omega))]
    by_cases hq : place ix d t = c.val
    · rw [if_pos hq]; exact ⟨fun _ => ⟨h, hq⟩, fun _ => by decide⟩
    · rw [if_neg hq]; exact ⟨fun e => absurd e (by decide), fun e => absurd e.2 hq⟩
  · have hz : IntOp.cmpi .eq (ownerV (F := Ideal) ix (ix2 t 0)) (BitVec.ofNat 32 d.val) = 0#1 := by
      rw [cmpi_bit False _ _ ⟨fun e => h e, False.elim⟩, if_neg not_false]
    rw [hz]
    constructor
    · intro e; exfalso; revert e
      generalize IntOp.cmpi .eq _ _ = z
      revert z; decide
    · intro e; exact absurd e.1 h

/-- No device has more tokens than places. -/
def Fits (ix : IVec S2048x1 32) : Prop := ∀ d : Fin 8, cnt (ownerV (F := Ideal) ix) 2048 d.val ≤ 320

variable (ix : IVec S2048x1 32) (d : Fin 8)

/-- A count grows past a token that is counted. -/
theorem cnt_lt (v : IVec S2048x1 32) (n n' d : ℕ) (t : Fin 2048) (ht : n ≤ t.val) (hn : t.val < n') (h : v (ix2 t 0) = BitVec.ofNat 32 d) :
    cnt v n d < cnt v n' d := by
  unfold cnt
  refine Finset.card_lt_card ⟨fun s hs => ?_, fun hh => ?_⟩
  · rw [Finset.mem_filter] at hs ⊢
    exact ⟨hs.1, by omega, hs.2.2⟩
  · have := hh (Finset.mem_filter.2 ⟨Finset.mem_univ t, hn, h⟩)
    rw [Finset.mem_filter] at this
    omega

/-- Under the capacity condition every place is below 320. -/
theorem place_lt (hf : Fits ix) (t : Fin 2048) (h : Owns ix d t) : place ix d t < 320 :=
  lt_of_lt_of_le (cnt_lt _ _ _ _ t le_rfl t.isLt h) (hf d)

/-- Tokens of one owner in the same place are the same token. -/
theorem place_inj (t t' : Fin 2048) (h : Owns ix d t) (h' : Owns ix d t') (e : place ix d t = place ix d t') : t = t' := by
  rcases lt_trichotomy t.val t'.val with hl | hl | hl
  · exact absurd e (cnt_lt _ _ _ _ t le_rfl hl h).ne
  · exact Fin.ext hl
  · exact absurd e (cnt_lt _ _ _ _ t' le_rfl hl h').ne'

/-- A sum over the tokens weighted by one column of the table is the term of the token placed there. -/
theorem sum_col (t : Fin 2048) (h : Owns ix d t) (c : Fin 320) (hc : place ix d t = c.val) (z : Fin 2048 → EReal) :
    (∑ s : Fin 2048, (if Owns ix d s ∧ place ix d s = c.val then (1 : EReal) else 0) * z s) = z t := by
  rw [Finset.sum_eq_single t]
  · rw [if_pos ⟨h, hc⟩, one_mul]
  · intro s _ hs
    rw [if_neg, zero_mul]
    exact fun e => hs (place_inj ix d s t e.1 h (e.2.trans hc.symm))
  · intro hh; exact absurd (Finset.mem_univ _) hh

/-- A sum over the places weighted by one row of the table: the term at the token's place, or nothing. -/
theorem sum_row (hf : Fits ix) (t : Fin 2048) (z : Fin 320 → EReal) (r : EReal)
    (hz : ∀ c : Fin 320, Owns ix d t → place ix d t = c.val → z c = r) :
    (∑ c : Fin 320, (if Owns ix d t ∧ place ix d t = c.val then (1 : EReal) else 0) * z c) = if Owns ix d t then r else 0 := by
  by_cases h : Owns ix d t
  · rw [if_pos h, Finset.sum_eq_single ⟨place ix d t, place_lt ix d hf t h⟩]
    · rw [if_pos ⟨h, rfl⟩, one_mul]; exact hz _ h rfl
    · intro c _ hc
      rw [if_neg, zero_mul]
      exact fun e => hc (Fin.ext e.2.symm)
    · intro hh; exact absurd (Finset.mem_univ _) hh
  · rw [if_neg h]
    refine Finset.sum_eq_zero fun c _ => ?_
    rw [if_neg (fun e => h e.1), zero_mul]

end Cert.Moe
end
-- ==== Proof.Soft.lean ====
module

public import proofs.«01_k».proof.Proof.Choose

/-! The router's weights: the softmax over the experts, the weight of a token's own expert, and that weight is finite where the tokens and the router's weights are. -/

@[expose] public section

set_option maxRecDepth 16384

noncomputable section

namespace Cert.Moe

open Cert.KernelIdeal Cert.KernelIdeal.Gen
open Idealize.ShloMosaic Idealize.ShloMosaic.TcCoe Idealize.SL.Sem

variable (x : FVec Ideal S2048x512 .bf16) (rw : FVec Ideal S512x64 .bf16)

/-- Token `t`'s score for expert `e`. -/
def scoreE (t : Fin 2048) (e : Fin 64) : EReal := ∑ k : Fin 512, x (ix2 t k) * rw (ix2 k e)
/-- Its greatest score. -/
def topE (t : Fin 2048) : EReal := Finset.univ.fold max (Ideal.ofBits .f32 0xFF800000#32) fun e : Fin 64 => scoreE x rw t e
/-- Its probability for expert `e`. -/
def probE (t : Fin 2048) (e : Fin 64) : EReal :=
  Ideal.div (Ideal.exp (scoreE x rw t e - topE x rw t)) (∑ e' : Fin 64, Ideal.exp (scoreE x rw t e' - topE x rw t))

/-- A value that is no infinity. -/
def Fin' (a : EReal) : Prop := a ≠ ⊤ ∧ a ≠ ⊥

/-- A finite value is a real number. -/
theorem Fin'.coe {a : EReal} (h : Fin' a) : ∃ r : ℝ, a = (r : EReal) := ⟨a.toReal, (EReal.coe_toReal h.1 h.2).symm⟩

/-- A sum of real numbers is one. -/
theorem sum_coe {ι : Type} (s : Finset ι) (f : ι → EReal) (h : ∀ i ∈ s, ∃ r : ℝ, f i = (r : EReal)) : ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨q, hq⟩ := ih fun i hi => h i (Finset.mem_insert_of_mem hi)
    exact ⟨r + q, by rw [Finset.sum_insert ha, hr, hq, EReal.coe_add]⟩

/-- The scores are real numbers. -/
theorem score_coe (hx : ∀ t k, Fin' (x (ix2 t k))) (hr : ∀ k e, Fin' (rw (ix2 k e))) (t : Fin 2048) (e : Fin 64) :
    ∃ r : ℝ, scoreE x rw t e = (r : EReal) := by
  refine sum_coe _ _ fun k _ => ?_
  obtain ⟨a, ha⟩ := (hx t k).coe
  obtain ⟨b, hb⟩ := (hr k e).coe
  exact ⟨a * b, by rw [ha, hb, EReal.coe_mul]⟩

/-- The word from which a maximum starts is −∞. -/
theorem bot_word : Ideal.ofBits .f32 0xFF800000#32 = (⊥ : EReal) := by simp [Ideal.ofBits, Ideal.ieee]

/-- The largest of the scores is a real number. -/
theorem fold_coe (f : Fin 64 → EReal) (h : ∀ i, ∃ r : ℝ, f i = (r : EReal)) : ∃ r : ℝ, Finset.univ.fold max (⊥ : EReal) f = (r : EReal) := by
  have hs : Finset.univ.fold max (⊥ : EReal) f = Finset.univ.sup f := rfl
  rw [hs]
  obtain ⟨i, -, hi⟩ := Finset.exists_mem_eq_sup Finset.univ ⟨0, Finset.mem_univ _⟩ f
  rw [hi]; exact h i

/-- Each probability is a real number, and not negative. -/
theorem prob_coe (hx : ∀ t k, Fin' (x (ix2 t k))) (hr : ∀ k e, Fin' (rw (ix2 k e))) (t : Fin 2048) (e : Fin 64) :
    ∃ r : ℝ, 0 ≤ r ∧ probE x rw t e = (r : EReal) := by
  obtain ⟨m, hm⟩ : ∃ r : ℝ, topE x rw t = (r : EReal) := by
    unfold topE; rw [bot_word]
    exact fold_coe _ fun i => score_coe x rw hx hr t i
  choose s hs using fun e => score_coe x rw hx hr t e
  have he : ∀ e', Ideal.exp (scoreE x rw t e' - topE x rw t) = ((Real.exp (s e' - m) : ℝ) : EReal) := by
    intro e'
    rw [hs, hm, ← EReal.coe_sub]; rfl
  have hsum : (∑ e' : Fin 64, Ideal.exp (scoreE x rw t e' - topE x rw t)) = ((∑ e' : Fin 64, Real.exp (s e' - m) : ℝ) : EReal) := by
    rw [Finset.sum_congr rfl fun e' _ => he e']
    exact (map_sum (⟨⟨fun r : ℝ => (r : EReal), rfl⟩, EReal.coe_add⟩ : ℝ →+ EReal) _ _).symm
  have hpos : 0 < ∑ e' : Fin 64, Real.exp (s e' - m) := Finset.sum_pos (fun i _ => Real.exp_pos _) ⟨0, Finset.mem_univ _⟩
  refine ⟨Real.exp (s e - m) * (∑ e' : Fin 64, Real.exp (s e' - m))⁻¹, mul_nonneg (Real.exp_pos _).le (inv_nonneg.2 hpos.le), ?_⟩
  unfold probE
  rw [he, hsum, Ideal.div, if_neg (by exact_mod_cast hpos.ne')]
  rfl

/-- The probability of a token's own expert, as the kernel sums it out of a masked row. -/
def ownProb (ix : IVec S2048x1 32) (t : Fin 2048) : EReal :=
  ∑ e : Fin 64, if ix (ix2 t 0) = BitVec.ofNat 32 e.val then probE x rw t e else 0

/-- A selection by a comparison. -/
theorem select_bit {w : ℕ} (a b : BitVec w) (u v : EReal) [Decidable (a = b)] :
    Scalar.select (IntOp.cmpi .eq a b) u v = if a = b then u else v := by
  by_cases h : a = b
  · rw [if_pos h, (cmpi_eq_one a b).2 h]; rfl
  · rw [if_neg h]
    have hn : IntOp.cmpi .eq a b = 0#1 := by rw [cmpi_bit False _ _ ⟨fun e => h e, False.elim⟩, if_neg not_false]
    rw [hn]; rfl

/-- The weight the kernel gives a token. -/
theorem pay2_at (ix : IVec S2048x1 32) (t : Fin 2048) : k0_pay2 (F := Ideal) x rw ix (ix2 t 0) = ownProb x rw ix t := by
  pointwise [k0_pay2, k0_pay1]
  exact Finset.sum_congr rfl fun e _ => select_bit _ _ _ _

/-- It is the probability of the token's own expert. -/
theorem ownProb_eq (ix : IVec S2048x1 32) (t : Fin 2048) (e : Fin 64) (h : ix (ix2 t 0) = BitVec.ofNat 32 e.val) :
    ownProb x rw ix t = probE x rw t e := by
  unfold ownProb
  rw [Finset.sum_eq_single e]
  · rw [if_pos h]
  · intro e' _ he
    rw [if_neg]
    rw [h, ofNat_inj_small (by omega) (by omega)]
    exact fun hh => he (Fin.ext hh.symm)
  · intro hh; exact absurd (Finset.mem_univ _) hh

/-- A device's weights: a token's probability in the column of its expert. -/
theorem wtsV_at (ix : IVec S2048x1 32) (d : Fin 8) (t : Fin 2048) (j : Fin 8) :
    wtsV (F := Ideal) (BitVec.ofNat 32 d.val) x rw ix (ix2 t j)
      = if ix (ix2 t 0) = BitVec.ofNat 32 (8 * d.val + j.val) then ownProb x rw ix t else 0 := by
  pointwise [wtsV, k0_pay4, k0_pay1]
  rw [pay2_at, select_bit]
  have : IntOp.addi (Scalar.muli (BitVec.ofNat 32 d.val) 8#32) (BitVec.ofNat 32 j.val) = BitVec.ofNat 32 (8 * d.val + j.val) := by
    revert d j; decide
  rw [this]

end Cert.Moe
end
-- ==== Proof.Rows.lean ====
module

public import proofs.«01_k».proof.Proof.Soft

/-! The rows one device computes for the tokens of its experts, and what a row holds for the token in its place. -/

@[expose] public section

set_option maxRecDepth 16384

noncomputable section

namespace Cert.Moe

open Cert.KernelIdeal Cert.KernelIdeal.Gen
open Idealize.ShloMosaic Idealize.ShloMosaic.TcCoe Idealize.SL.Sem

variable (x : FVec Ideal S2048x512 .bf16) (rw : FVec Ideal S512x64 .bf16) (ix : IVec S2048x1 32) (d : Fin 8)

/-- The gathered row in a token's place is the token's. -/
theorem xgV_at (t : Fin 2048) (h : Owns ix d t) (c : Fin 320) (hc : place ix d t = c.val) (k : Fin 512) :
    xgV (F := Ideal) (BitVec.ofNat 32 d.val) x ix (ix2 c k) = x (ix2 t k) := by
  unfold xgV k0_pay19
  pointwise [k0_pay17]
  refine Eq.trans (Finset.sum_congr rfl fun s _ => ?_) (sum_col ix d t h c hc fun s => x (ix2 s k))
  exact congrArg (fun z : EReal => z * x (ix2 s k)) (selW_at ix d s c)

/-- The gathered weights in a token's place are the token's. -/
theorem wgV_at (t : Fin 2048) (h : Owns ix d t) (c : Fin 320) (hc : place ix d t = c.val) (j : Fin 8) :
    wgV (F := Ideal) (BitVec.ofNat 32 d.val) x rw ix (ix2 c j) = if ix (ix2 t 0) = BitVec.ofNat 32 (8 * d.val + j.val) then ownProb x rw ix t else 0 := by
  unfold wgV k0_pay20
  pointwise []
  rw [← wtsV_at]
  refine Eq.trans (Finset.sum_congr rfl fun s _ => ?_) (sum_col ix d t h c hc fun s => wtsV (F := Ideal) (BitVec.ofNat 32 d.val) x rw ix (ix2 s j))
  exact congrArg (fun z : EReal => z * wtsV (F := Ideal) (BitVec.ofNat 32 d.val) x rw ix (ix2 s j)) (selW_at ix d s c)

/-- One expert's matrix, at an entry. -/
theorem ewAt_at (j : Fin 8) (ew : FVec Ideal S8x512x1024 .bf16) (k : Fin 512) (f : Fin 1024) :
    ewAt (F := Ideal) j ew (ix3 0 k f) = ew (ix3 j k f) := by
  unfold ewAt
  rw [View.readAt_apply]
  show ew _ = _
  refine congrArg ew (funext fun a => Fin.ext ?_)
  match a with
  | 0 => show j.val + 1 * 0 = j.val; omega
  | 1 => show 0 + 1 * k.val = k.val; omega
  | 2 => show 0 + 1 * f.val = f.val; omega

variable (ew : FVec Ideal S8x512x1024 .bf16)

/-- The rows a device computes, as sums over its experts. -/
theorem sentV_sum (c : Fin 320) (f : Fin 1024) (v2 : BitVec 32) :
    sentV (F := Ideal) v2 x rw ix ew (ix2 c f)
      = ∑ j : Fin 8, ∑ k : Fin 512, xgV (F := Ideal) v2 x ix (ix2 c k) * wgV (F := Ideal) v2 x rw ix (ix2 c j) * ew (ix3 j k f) := by
  have h01 : y01V (F := Ideal) v2 x rw ix ew (ix2 c f) = ∑ k : Fin 512, xgV (F := Ideal) v2 x ix (ix2 c k) * wgV (F := Ideal) v2 x rw ix (ix2 c 0) * ew (ix3 0 k f) := by
    unfold y01V k0_pay21
    pointwise
    exact Finset.sum_congr rfl fun k _ => congrArg _ (ewAt_at 0 ew k f)
  have h1 : y1V (F := Ideal) v2 x rw ix ew (ix2 c f) = ∑ k : Fin 512, xgV (F := Ideal) v2 x ix (ix2 c k) * wgV (F := Ideal) v2 x rw ix (ix2 c 1) * ew (ix3 1 k f) := by
    unfold y1V k0_pay22
    pointwise
    exact Finset.sum_congr rfl fun k _ => congrArg _ (ewAt_at 1 ew k f)
  unfold sentV y5V y6V
  pointwise [k0_pay26, k0_pay25, k0_pay24, k0_pay23]
  rw [h01, h1, Fin.sum_univ_eight]
  simp only [ewAt_at]

/-- A probability multiplies a sum term by term. -/
theorem mul_sum_real {r : ℝ} (hr : 0 ≤ r) (b : Fin 512 → EReal) : (r : EReal) * ∑ k : Fin 512, b k = ∑ k : Fin 512, (r : EReal) * b k := by
  have key : ∀ s : Finset (Fin 512), (r : EReal) * ∑ k ∈ s, b k = ∑ k ∈ s, (r : EReal) * b k := by
    intro s
    classical
    induction s using Finset.induction_on with
    | empty => simp
    | insert a s ha ih =>
      rw [Finset.sum_insert ha, Finset.sum_insert ha, ← ih]
      exact EReal.left_distrib_of_nonneg_of_ne_top (by exact_mod_cast hr) (EReal.coe_ne_top r) _ _
  exact key _

/-- Token `t`'s routed row: its probability times its row through its expert, nothing for a number that names none. -/
def routed (W : Fin 64 → Fin 512 → Fin 1024 → EReal) (t : Fin 2048) (f : Fin 1024) : EReal :=
  ∑ e : Fin 64, if ix (ix2 t 0) = BitVec.ofNat 32 e.val then probE x rw t e * ∑ k : Fin 512, x (ix2 t k) * W e k f else 0

/-- Only the expert the number names adds to a token's routed row. -/
theorem routed_eq (W : Fin 64 → Fin 512 → Fin 1024 → EReal) (t : Fin 2048) (f : Fin 1024) (e : Fin 64) (h : ix (ix2 t 0) = BitVec.ofNat 32 e.val) :
    routed x rw ix W t f = probE x rw t e * ∑ k : Fin 512, x (ix2 t k) * W e k f := by
  unfold routed
  rw [Finset.sum_eq_single e]
  · rw [if_pos h]
  · intro e' _ he
    rw [if_neg]
    rw [h, ofNat_inj_small (by omega) (by omega)]
    exact fun hh => he (Fin.ext hh.symm)
  · intro hh; exact absurd (Finset.mem_univ _) hh

/-- A token whose index names no expert has no routed part. -/
theorem routed_none (W : Fin 64 → Fin 512 → Fin 1024 → EReal) (t : Fin 2048) (f : Fin 1024) (h : ∀ e : Fin 64, ix (ix2 t 0) ≠ BitVec.ofNat 32 e.val) :
    routed x rw ix W t f = 0 := by
  unfold routed
  exact Finset.sum_eq_zero fun e _ => if_neg (h e)

/-- A token whose number names an expert is owned by that expert's device. -/
theorem owns_iff (t : Fin 2048) (e : Fin 64) (h : ix (ix2 t 0) = BitVec.ofNat 32 e.val) : Owns ix d t ↔ e.val / 8 = d.val := by
  unfold Owns
  have : ownerV (F := Ideal) ix (ix2 t 0) = IntOp.divsi .vector (ix (ix2 t 0)) 8#32 := by
    pointwise [ownerV, k0_pay3, k0_pay1]
  rw [this, h]
  clear this h
  have : IntOp.divsi .vector (BitVec.ofNat 32 e.val) 8#32 = BitVec.ofNat 32 (e.val / 8) := by
    revert e; decide
  rw [this, ofNat_inj_small (by omega) (by omega)]

/-- The row a device computes at a token's place is that token's routed row. -/
theorem sentV_at (hx : ∀ t k, Fin' (x (ix2 t k))) (hr : ∀ k e, Fin' (rw (ix2 k e))) (W : Fin 64 → Fin 512 → Fin 1024 → EReal)
    (hW : ∀ (j : Fin 8) k f, ew (ix3 j k f) = W ⟨8 * d.val + j.val, by omega⟩ k f)
    (t : Fin 2048) (h : Owns ix d t) (c : Fin 320) (hc : place ix d t = c.val) (f : Fin 1024) :
    sentV (F := Ideal) (BitVec.ofNat 32 d.val) x rw ix ew (ix2 c f) = routed x rw ix W t f := by
  rw [sentV_sum]
  have hterm : ∀ j k, xgV (F := Ideal) (BitVec.ofNat 32 d.val) x ix (ix2 c k) * wgV (F := Ideal) (BitVec.ofNat 32 d.val) x rw ix (ix2 c j) * ew (ix3 j k f)
      = x (ix2 t k) * (if ix (ix2 t 0) = BitVec.ofNat 32 (8 * d.val + j.val) then ownProb x rw ix t else 0) * W ⟨8 * d.val + j.val, by omega⟩ k f := by
    intro j k
    rw [xgV_at x ix d t h c hc, wgV_at x rw ix d t h c hc, hW]
  simp only [hterm]
  by_cases hj : ∃ j : Fin 8, ix (ix2 t 0) = BitVec.ofNat 32 (8 * d.val + j.val)
  · obtain ⟨j, hj⟩ := hj
    rw [routed_eq x rw ix W t f ⟨8 * d.val + j.val, by omega⟩ hj, Finset.sum_eq_single j]
    · rw [if_pos hj, ownProb_eq x rw ix t ⟨8 * d.val + j.val, by omega⟩ hj]
      obtain ⟨r, hr0, hr1⟩ := prob_coe x rw hx hr t ⟨8 * d.val + j.val, by omega⟩
      rw [hr1, mul_sum_real hr0]
      exact Finset.sum_congr rfl fun k _ => by rw [mul_comm (x (ix2 t k)), mul_assoc]
    · intro j' _ hne
      refine Finset.sum_eq_zero fun k _ => ?_
      rw [if_neg, mul_zero, zero_mul]
      rw [hj, ofNat_inj_small (by omega) (by omega)]
      exact fun hh => hne (Fin.ext (by omega))
    · intro hh; exact absurd (Finset.mem_univ _) hh
  · rw [routed_none]
    · refine Finset.sum_eq_zero fun j _ => Finset.sum_eq_zero fun k _ => ?_
      rw [if_neg (fun hh => hj ⟨j, hh⟩), mul_zero, zero_mul]
    · intro e he
      have := (owns_iff ix d t e he).1 h
      exact hj ⟨⟨e.val % 8, by omega⟩, by rw [he]; congr 1; show e.val = 8 * d.val + e.val % 8; omega⟩

end Cert.Moe
end
-- ==== Proof.Total.lean ====
module

public import proofs.«01_k».proof.Proof.Rows
public import proofs.«01_k».proof.Proof.Run

/-! What a device leaves in the result: the shared product and the sum over all owners of the rows they computed. -/

@[expose] public section

set_option maxRecDepth 16384

noncomputable section

namespace Cert.Moe

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What is loaded from slot `k` is what the device it comes from sent. -/
theorem slot_cast (c : Dev nD) (k : Fin 7) :
    shapeCast S320x1024 (slotRd m ρ c k) shapeCasts_S1x320x1024_S320x1024 = ygAt m ρ (bwd k c) := by
  have h : (slotM k).view.read (Elt Ideal) (landed m ρ c k) = ygAt m ρ (bwd k c) := by
    unfold landed
    exact View.read_write_univ _ _
  rw [← h]
  rfl

/-- What a slot holds is what its sender sent. -/
theorem slot_at (c : Dev nD) (k : Fin 7) (r : Fin 320) (f : Fin 1024) :
    (slotRd m ρ c k : FVec Ideal S1x320x1024 .bf16) (ix3 0 r f) = (ygAt m ρ (bwd k c) : FVec Ideal S320x1024 .bf16) (ix2 r f) := by
  rw [← slot_cast]
  pointwise

/-- A device's number. -/
theorem devW_eq (c : Dev nD) : devW c = BitVec.ofNat 32 c.val := by
  revert c; decide
/-- The sender that the kernel computes for an arrival. -/
theorem srcW_eq (c : Dev nD) (k : Fin 7) : srcW (devW c) k = BitVec.ofNat 32 (bwd k c).val := by
  revert c k; decide

/-- One term per device: the device's own, then those of the seven behind it. -/
theorem sum_ring (c : Dev nD) (T : Dev nD → EReal) :
    T c + T (bwd 0 c) + T (bwd 1 c) + T (bwd 2 c) + T (bwd 3 c) + T (bwd 4 c) + T (bwd 5 c) + T (bwd 6 c) = ∑ d : Dev nD, T d := by
  let g : Fin 8 → Dev nD := fun i => if h : i.val = 0 then c else bwd ⟨i.val - 1, by omega⟩ c
  have hg : Function.Bijective g := by
    revert c; decide
  rw [← hg.sum_comp, Fin.sum_univ_eight]
  rfl

/-- The block sent is the block the device itself adds. -/
theorem sentV_eq_ygV (v2 : BitVec 32) (x : FVec Ideal S2048x512 .bf16) (rw : FVec Ideal S512x64 .bf16) (ix : IVec S2048x1 32) (ew : FVec Ideal S8x512x1024 .bf16)
    (c : Fin 320) (f : Fin 1024) : ygV (F := Ideal) v2 x rw ix ew (ix2 c f) = sentV (F := Ideal) v2 x rw ix ew (ix2 c f) := by
  unfold ygV sentV
  pointwise [k0_pay26]

/-- What the devices' inputs are: everything but the experts' matrices alike, those cut by device. -/
structure Inputs (x : FVec Ideal S2048x512 .bf16) (rw : FVec Ideal S512x64 .bf16) (ix : IVec S2048x1 32)
    (W : Fin 64 → Fin 512 → Fin 1024 → EReal) (sw : FVec Ideal S512x1024 .bf16) : Prop where
  x_eq : ∀ c, xA m ρ c = x
  rw_eq : ∀ c, rwA m ρ c = rw
  ix_eq : ∀ c, ixA m ρ c = ix
  sw_eq : ∀ c, swA m ρ c = sw
  ew_eq : ∀ (c : Dev nD) (j : Fin 8) k f, (ewA m ρ c : FVec Ideal S8x512x1024 .bf16) (ix3 j k f) = W ⟨8 * c.val + j.val, by have := c.isLt; have : nD = 8 := rfl; omega⟩ k f
  fits : Fits ix
  x_fin : ∀ t k, Fin' (x (ix2 t k))
  rw_fin : ∀ k e, Fin' (rw (ix2 k e))

variable {m ρ} {x : FVec Ideal S2048x512 .bf16} {rw : FVec Ideal S512x64 .bf16} {ix : IVec S2048x1 32}
  {W : Fin 64 → Fin 512 → Fin 1024 → EReal} {sw : FVec Ideal S512x1024 .bf16} (I : Inputs m ρ x rw ix W sw)

include I

/-- What device `d`'s rows add to token `t`: its routed row where the device owns it. -/
theorem term_of (d : Dev nD) (t : Fin 2048) (f : Fin 1024) (y : Fin 320 → EReal) (hy : ∀ c, y c = (ygAt m ρ d : FVec Ideal S320x1024 .bf16) (ix2 c f)) :
    (∑ c : Fin 320, selW (F := Ideal) (BitVec.ofNat 32 d.val) ix (ix2 t c) * y c) = if Owns ix d t then routed x rw ix W t f else 0 := by
  rw [← sum_row ix d I.fits t y (routed x rw ix W t f)]
  · exact Finset.sum_congr rfl fun c _ => congrArg (fun z : EReal => z * y c) (selW_at ix d t c)
  · intro c h hc
    rw [hy c]
    unfold ygAt
    rw [I.x_eq, I.rw_eq, I.ix_eq, devW_eq]
    exact sentV_at x rw ix d (ewA m ρ d) I.x_fin I.rw_fin W (I.ew_eq d) t h c hc f

/-- The result before the first arrival: the shared part and the device's own routed rows. -/
theorem out_zero (c : Dev nD) (t : Fin 2048) (f : Fin 1024) :
    (outN m ρ c 0 : FVec Ideal S2048x1024 .f32) (ix2 t f)
      = (∑ k : Fin 512, x (ix2 t k) * sw (ix2 k f)) + if Owns ix c t then routed x rw ix W t f else 0 := by
  unfold outN
  rw [I.x_eq, I.rw_eq, I.ix_eq, I.sw_eq, devW_eq, ← term_of I c t f (fun r => ygV (F := Ideal) (BitVec.ofNat 32 c.val) x rw ix (ewA m ρ c) (ix2 r f))]
  · unfold out0V
    pointwise [k0_pay27, k0_pay17]
    rfl
  · intro r
    unfold ygAt
    rw [I.x_eq, I.rw_eq, I.ix_eq, devW_eq]
    exact sentV_eq_ygV _ _ _ _ _ _ _

/-- The result after one more arrival. -/
theorem out_succ (c : Dev nD) (k : Fin 7) (t : Fin 2048) (f : Fin 1024) :
    (outN m ρ c (k.val + 1) : FVec Ideal S2048x1024 .f32) (ix2 t f)
      = (show EReal from (outN m ρ c k.val : FVec Ideal S2048x1024 .f32) (ix2 t f)) + if Owns ix (bwd k c) t then routed x rw ix W t f else 0 := by
  rw [outN_succ, I.ix_eq, ← term_of I (bwd k c) t f (fun r => (slotRd m ρ c k : FVec Ideal S1x320x1024 .bf16) (ix3 0 r f)) fun r => slot_at m ρ c k r f]
  rw [← srcW_eq]
  unfold stepV
  pointwise

/-- The routed parts of all owners make up the routed part. -/
theorem owners_sum (t : Fin 2048) (f : Fin 1024) :
    (∑ d : Dev nD, if Owns ix d t then routed x rw ix W t f else 0) = routed x rw ix W t f := by
  by_cases h : ∃ e : Fin 64, ix (ix2 t 0) = BitVec.ofNat 32 e.val
  · obtain ⟨e, he⟩ := h
    rw [Finset.sum_eq_single (⟨e.val / 8, by omega⟩ : Fin 8)]
    · rw [if_pos ((owns_iff ix _ t e he).2 rfl)]
    · intro d _ hd
      rw [if_neg]
      rw [owns_iff ix d t e he]
      exact fun hh => hd (Fin.ext hh.symm)
    · exact fun hh => absurd (Finset.mem_univ _) hh
  · rw [routed_none x rw ix W t f fun e he => h ⟨e, he⟩]
    exact Finset.sum_eq_zero fun d _ => ite_self _

/-- **The kernel's result**: a token's row through the shared matrix plus its routed row. -/
theorem outAt_at (c : Dev nD) (t : Fin 2048) (f : Fin 1024) :
    (outAt m ρ c : FVec Ideal S2048x1024 .f32) (ix2 t f) = (∑ k : Fin 512, x (ix2 t k) * sw (ix2 k f)) + routed x rw ix W t f := by
  unfold outAt
  have h0 := out_zero I c t f
  have h1 := out_succ I c 0 t f
  have h2 := out_succ I c 1 t f
  have h3 := out_succ I c 2 t f
  have h4 := out_succ I c 3 t f
  have h5 := out_succ I c 4 t f
  have h6 := out_succ I c 5 t f
  have h7 := out_succ I c 6 t f
  refine h7.trans ?_
  rw [show ((6 : Fin 7).val) = (5 : Fin 7).val + 1 from rfl, h6, show ((5 : Fin 7).val) = (4 : Fin 7).val + 1 from rfl, h5,
    show ((4 : Fin 7).val) = (3 : Fin 7).val + 1 from rfl, h4, show ((3 : Fin 7).val) = (2 : Fin 7).val + 1 from rfl, h3,
    show ((2 : Fin 7).val) = (1 : Fin 7).val + 1 from rfl, h2, show ((1 : Fin 7).val) = (0 : Fin 7).val + 1 from rfl, h1]
  change (show EReal from (outN m ρ c 0 : FVec Ideal S2048x1024 .f32) (ix2 t f)) + _ + _ + _ + _ + _ + _ + _ = _
  rw [h0]
  refine Eq.trans ?_ (congrArg (fun z : EReal => (∑ k : Fin 512, x (ix2 t k) * sw (ix2 k f)) + z) ((sum_ring c _).trans (owners_sum I t f)))
  simp only [add_assoc]

end Cert.Moe
end
-- ==== Proof.RefTerm.lean ====
module

public import proofs.«01_k».proof.Proof.Total
public import proofs.«01_k».proof.Proof.Gen.ReferenceIdeal.Run

/-! The reference's result as a term in its arguments, and its entries. -/

@[expose] public section

set_option maxRecDepth 16384

noncomputable section

namespace Cert.Moe

open Idealize.ShloMosaic Idealize.ShloMosaic.TcCoe Idealize.SL.Sem

section Reference
open Cert.ReferenceIdeal Cert.ReferenceIdeal.Gen Cert.ReferenceIdeal.Facts

variable (x : FVec Ideal S2048x512 .bf16) (rw : FVec Ideal S512x64 .bf16) (ix : IVec S2048x1 32) (ew : FVec Ideal S64x512x1024 .bf16) (sw : FVec Ideal S512x1024 .bf16)

/-- The reference's result, from its arguments. -/
def refTerm : FVec Ideal S2048x1024 .f32 :=
  addf (Host.dotGeneral dot_S2048x512_S512x1024_S2048x1024_1_0_0_1_n_n none (extf .f32 x bitsLt_bf16_f32) (extf .f32 sw bitsLt_bf16_f32)) (Host.reduceAdd (select (broadcastInDim S2048x64x1024 ![0, 1, 2] bcast_S2048x64x1_S2048x64x1024_0_1_2 (broadcastInDim S2048x64x1 ![0, 1] bcast_S2048x64_S2048x64x1_0_1 (cmpi .eq (broadcastInDim S2048x64 ![0, 1] bcast_S2048x1_S2048x64_0_1 ix) (broadcastInDim S2048x64 ![0, 1] bcast_S1x64_S2048x64_0_1 (broadcastInDim S1x64 ![1] bcast_S64_S1x64_1 (iotaInDim S64 32 0)))))) (mulf (broadcastInDim S2048x64x1024 ![0, 1, 2] bcast_S2048x64x1_S2048x64x1024_0_1_2 (broadcastInDim S2048x64x1 ![0, 1] bcast_S2048x64_S2048x64x1_0_1 (Host.divf (Host.exp (subf (Host.dotGeneral dot_S2048x512_S512x64_S2048x64_1_0_0_1_n_n none (extf .f32 x bitsLt_bf16_f32) (extf .f32 rw bitsLt_bf16_f32)) (broadcastInDim S2048x64 ![0, 1] bcast_S2048x1_S2048x64_0_1 (broadcastInDim S2048x1 ![0] bcast_S2048_S2048x1_0 (Host.reduce FloatOps.maximumf (Host.dotGeneral dot_S2048x512_S512x64_S2048x64_1_0_0_1_n_n none (extf .f32 x bitsLt_bf16_f32) (extf .f32 rw bitsLt_bf16_f32)) (constant S_ .f32 0xFF800000#32) reducesTo_S2048x64_S2048_d1 h_S_))))) (broadcastInDim S2048x64 ![0, 1] bcast_S2048x1_S2048x64_0_1 (broadcastInDim S2048x1 ![0] bcast_S2048_S2048x1_0 (Host.reduceAdd (Host.exp (subf (Host.dotGeneral dot_S2048x512_S512x64_S2048x64_1_0_0_1_n_n none (extf .f32 x bitsLt_bf16_f32) (extf .f32 rw bitsLt_bf16_f32)) (broadcastInDim S2048x64 ![0, 1] bcast_S2048x1_S2048x64_0_1 (broadcastInDim S2048x1 ![0] bcast_S2048_S2048x1_0 (Host.reduce FloatOps.maximumf (Host.dotGeneral dot_S2048x512_S512x64_S2048x64_1_0_0_1_n_n none (extf .f32 x bitsLt_bf16_f32) (extf .f32 rw bitsLt_bf16_f32)) (constant S_ .f32 0xFF800000#32) reducesTo_S2048x64_S2048_d1 h_S_))))) (constant S_ .f32 0x00000000#32) reducesTo_S2048x64_S2048_d1 h_S_)))))) (Host.dotGeneral dot_S2048x512_S64x512x1024_S2048x64x1024_1_1_0_02_n_n none (extf .f32 x bitsLt_bf16_f32) (extf .f32 ew bitsLt_bf16_f32))) (broadcastInDim S2048x64x1024 ![] bcast_S_S2048x64x1024 (id (constant S_ .f32 0x00000000#32)))) (constant S_ .f32 0x00000000#32) reducesTo_S2048x64x1024_S2048x1024_d1 h_S_)

/-- The experts' matrices by expert. -/
def mats (e : Fin 64) (k : Fin 512) (f : Fin 1024) : EReal := ew (ix3 e k f)

/-- The reference's result, at an entry. -/
theorem refTerm_at (t : Fin 2048) (f : Fin 1024) :
    refTerm x rw ix ew sw (ix2 t f) = (∑ k : Fin 512, x (ix2 t k) * sw (ix2 k f)) + routed x rw ix (mats ew) t f := by
  pointwise [refTerm]
  refine congrArg (fun z : EReal => (∑ k : Fin 512, x (ix2 t k) * sw (ix2 k f)) + z) (Finset.sum_congr rfl fun e _ => ?_)
  refine (select_bit _ _ _ _).trans ?_
  have hz : (id (constant S_ .f32 0x00000000#32) : FVec Ideal S_ .f32) ix0 = (0 : EReal) := Ideal.ofBits_zero_f32
  rw [hz]; rfl

end Reference

end Cert.Moe
end
-- ==== Proof.Admits.lean ====
module

public import proofs.«01_k».proof.Proof.Soft
public import proofs.«01_k».proof.Proof.Gen.Pre_admissible_KernelIdeal
public import Idealize.ShloMosaic.Lib.IndicatorCount
public import Idealize.ShloMosaic.Lib.ReduceAll

/-! What the precondition says: no owner has more than 320 tokens, and the tokens and the router's weights are finite. -/

@[expose] public section

set_option maxRecDepth 16384

noncomputable section

namespace Cert.Moe

open Idealize.ShloMosaic Idealize.ShloMosaic.TcCoe Idealize.SL.Sem

section Condition
open Cert.Pre_admissible_KernelIdeal Cert.Pre_admissible_KernelIdeal.Facts

variable (x : FVec Ideal S2048x512 .bf16) (rw : FVec Ideal S512x64 .bf16) (ix : IVec S2048x1 32) (ew : FVec Ideal S8x512x1024 .bf16) (sw : FVec Ideal S512x1024 .bf16)

/-- Division by eight is the same on every unit. -/
theorem div_eight (u u' : ArithUnit) (a : BitVec 32) : IntOp.divsi u a 8#32 = IntOp.divsi u' a 8#32 := by
  have h : ¬ IntOp.SDivCorner a 8#32 := by
    unfold IntOp.SDivCorner
    rintro (h | h)
    · exact absurd h (by decide)
    · exact absurd h.2 (by decide)
  unfold IntOp.divsi
  rw [if_neg h, if_neg h]

/-- The precondition's owner is the kernel's. -/
theorem owner_div (ix : IVec S2048x1 32) (t : Fin 2048) :
    ownerV (F := Ideal) ix (ix2 t 0) = IntOp.divsi .vector (ix (ix2 t 0)) 8#32 := by
  pointwise [ownerV, Cert.KernelIdeal.Gen.k0_pay3, Cert.KernelIdeal.Gen.k0_pay1]

/-- The bound on the absolute values is +∞. -/
theorem top_word : Ideal.ofBits .bf16 0x7F80#16 = (⊤ : EReal) := by simp [Ideal.ofBits, Ideal.ieee]

/-- A value whose size lies below infinity is no infinity. -/
theorem fin_of_abs (a : EReal) (h : BitVec.ofBool (decide (FloatOps.absf (F := Ideal) (φ := .bf16) a < Ideal.ofBits .bf16 0x7F80#16)) = 1#1) : Fin' a := by
  rw [top_word] at h
  have hlt : max a (-a) < ⊤ := by
    by_contra hn
    have hd : decide (FloatOps.absf (F := Ideal) (φ := .bf16) a < (⊤ : EReal)) = false := decide_eq_false hn
    rw [hd] at h; exact absurd h (by decide)
  refine ⟨?_, ?_⟩
  · rintro rfl; simp at hlt
  · rintro rfl; simp at hlt

instance : Subsingleton S_.Idx := ⟨fun a b => funext fun i => i.elim0⟩

/-- The precondition in plain terms: capacity, and finite tokens and router weights. -/
theorem admits (hg : fn (F := Ideal) x rw ix ew sw = fun _ => 1#1) :
    Fits ix ∧ (∀ t k, Fin' (x (ix2 t k))) ∧ ∀ k e, Fin' (rw (ix2 k e)) := by
  have h := congrFun hg ix0
  unfold fn fn_part1 at h
  obtain ⟨h1, hR⟩ := IntOp.andi_eq_one.1 h
  obtain ⟨hF, hX⟩ := IntOp.andi_eq_one.1 h1
  refine ⟨fun d => ?_, fun t k => ?_, fun k e => ?_⟩
  · have := Host.reduce_andi_all _ _ _ _ _ hF (ix1 d)
    pointwise at this
    rw [IndicatorCount.fold_addi_setWidth_eq_card] at this
    simp only [cmpi_eq_one, div_eight .host .vector] at this
    have e : (Finset.univ.filter fun t : Fin 2048 => IntOp.divsi .vector (ix (ix2 t 0)) 8#32 = BitVec.ofNat 32 d.val).card
        = cnt (ownerV (F := Ideal) ix) 2048 d.val := by
      unfold cnt
      refine congrArg Finset.card (Finset.filter_congr fun t _ => ?_)
      rw [owner_div]
      exact ⟨fun h => ⟨t.isLt, h⟩, fun h => h.2⟩
    rw [e] at this
    have hb := cnt_le (ownerV (F := Ideal) ix) 2048 d.val
    revert this hb
    generalize cnt (ownerV (F := Ideal) ix) 2048 d.val = n
    intro this hb
    by_contra hn
    have hs : BitVec.sle (BitVec.ofNat 32 n) 320#32 = false := by
      rw [BitVec.sle, toInt_small (by omega)]
      exact decide_eq_false (by
        have : (320#32).toInt = 320 := by decide
        rw [this]; omega)
    change BitVec.ofBool (BitVec.sle (BitVec.ofNat 32 n) 320#32) = 1#1 at this
    rw [hs] at this; exact absurd this (by decide)
  · have := Host.reduce_andi_all _ _ _ _ _ hX (ix2 t k)
    pointwise at this
    exact fin_of_abs _ this
  · have := Host.reduce_andi_all _ _ _ _ _ hR (ix2 k e)
    pointwise at this
    exact fin_of_abs _ this

end Condition

end Cert.Moe
end
-- ==== Proof.Value.lean ====
module

public import proofs.«01_k».proof.Defs
public import proofs.«01_k».proof.Proof.RefTerm
public import proofs.«01_k».proof.Proof.Admits
public import proofs.«01_k».proof.Proof.Frames
public import Idealize.ShloMosaic.Lib.Pipeline.ValueKit
public import Idealize.ShloMosaic.Lib.LayoutAt

/-! The value claim: the kernel's result on every device is the reference's. -/

@[expose] public section

set_option maxRecDepth 16384

noncomputable section

namespace Cert.Moe

open Idealize.ShloMosaic Idealize.ShloMosaic.TcCoe Idealize.SL.Sem

section Whole
open Cert.KernelIdeal Cert.KernelIdeal.Gen

variable (m : (ℓ : Loc nD τ sig) → Buf (Elt Ideal) ℓ) (ρ : Dev nD → PrngReg)

/-- The kernel reads the whole array of tokens. -/
theorem xA_eq (c : Dev nD) : xA m ρ c = m ((c.tc : Thread nD τ).loc main_arg0) := by
  unfold xA; funext i; blk_ext! [] <;> first | exact Nat.zero_add _ | rfl
/-- The kernel reads all the router's weights. -/
theorem rwA_eq (c : Dev nD) : rwA m ρ c = m ((c.tc : Thread nD τ).loc main_arg1) := by
  unfold rwA; funext i; blk_ext! [] <;> first | exact Nat.zero_add _ | rfl
/-- The kernel reads all the experts' indices. -/
theorem ixA_eq (c : Dev nD) : ixA m ρ c = m ((c.tc : Thread nD τ).loc main_arg2) := by
  unfold ixA; funext i; blk_ext! [] <;> first | exact Nat.zero_add _ | rfl
/-- The kernel reads all of the device's experts' matrices. -/
theorem ewA_eq (c : Dev nD) : ewA m ρ c = m ((c.tc : Thread nD τ).loc main_arg3) := by
  unfold ewA; funext i; blk_ext! [] <;> first | exact Nat.zero_add _ | rfl
/-- The kernel reads all the shared weights. -/
theorem swA_eq (c : Dev nD) : swA m ρ c = m ((c.tc : Thread nD τ).loc main_arg4) := by
  unfold swA; funext i; blk_ext! [] <;> first | exact Nat.zero_add _ | rfl

/-- The result array ends holding what the body leaves in the result's staging buffer. -/
theorem finalA_out (c : Dev nD) : finalA m ρ c (5 : Fin 6) = outAt m ρ c := by
  refine (dats m ρ 0 c).arrAt_eq_of_after_last (5 : Fin 6) t₀ (by decide +kernel) _ fun j => ?_
  blk_simp
  rfl

/-- One device's block of the experts' matrices, at an entry. -/
theorem block_at (c : Dev nD) (v : FVec Ideal ⟨3, ![64, 512, 1024]⟩ .bf16) (j : Fin 8) (k : Fin 512) (f : Fin 1024) :
    (Layout.block ⟨3, ![8, 512, 1024]⟩ ⟨3, ![64, 512, 1024]⟩ 0 8 c v : FVec Ideal ⟨3, ![8, 512, 1024]⟩ .bf16) (ix3 j k f)
      = mats v ⟨8 * c.val + j.val, by have := c.isLt; have : nD = 8 := rfl; omega⟩ k f := by
  rw [Layout.block_apply]
  refine congrArg v (funext fun a => Fin.ext ?_)
  rw [Layout.Tiles.idx_val]
  match a with
  | ⟨0, _⟩ => show c.val * 8 + j.val = 8 * c.val + j.val; omega
  | ⟨1, _⟩ => rfl
  | ⟨2, _⟩ => rfl

/-- What every device's result is, the inputs being parts of one set of arrays that the precondition admits. -/
theorem out_eq (x : FVec Ideal S2048x512 .bf16) (rw : FVec Ideal S512x64 .bf16) (ix : IVec S2048x1 32) (ew : FVec Ideal ⟨3, ![64, 512, 1024]⟩ .bf16) (sw : FVec Ideal S512x1024 .bf16)
    (hp : Cert.Pre_KernelIdeal_admissible_KernelIdeal m)
    (ha : ∀ c : Dev nD, m ((c.tc : Thread nD τ).loc main_arg0) = x ∧ m ((c.tc : Thread nD τ).loc main_arg1) = rw ∧ m ((c.tc : Thread nD τ).loc main_arg2) = ix
      ∧ m ((c.tc : Thread nD τ).loc main_arg3) = Layout.block ⟨3, ![8, 512, 1024]⟩ ⟨3, ![64, 512, 1024]⟩ 0 8 c ew ∧ m ((c.tc : Thread nD τ).loc main_arg4) = sw)
    (c : Dev nD) : outAt m ρ c = refTerm x rw ix ew sw := by
  have hp0 := hp 0
  rw [(ha 0).1, (ha 0).2.1, (ha 0).2.2.1] at hp0
  obtain ⟨h1, h2, h3⟩ := admits _ _ _ _ _ hp0
  have hin : Inputs m ρ x rw ix (mats ew) sw :=
    ⟨fun c => (xA_eq m ρ c).trans (ha c).1, fun c => (rwA_eq m ρ c).trans (ha c).2.1, fun c => (ixA_eq m ρ c).trans (ha c).2.2.1,
      fun c => (swA_eq m ρ c).trans (ha c).2.2.2.2,
      fun c j k f => (congrFun ((ewA_eq m ρ c).trans (ha c).2.2.2.1) (ix3 j k f)).trans (block_at c _ j k f), h1, h2, h3⟩
  refine funext fun (i : S2048x1024.Idx) => ?_
  obtain ⟨t, f, rfl⟩ : ∃ (t : Fin 2048) (f : Fin 1024), i = ix2 t f := ⟨_, _, eq_ix2 i⟩
  exact (outAt_at hin c t f).trans (refTerm_at _ _ _ _ _ t f).symm

end Whole

/-- The kernel's result on every device is the reference's. -/
theorem algebraic : Cert.algebraic_KernelIdeal_ReferenceIdeal_pre_admissible_KernelIdeal := by
  intro m g m' g' hp ha
  have hout := out_eq m g _ _ _ _ _ hp ha
  exact ⟨_, (θ_run Cert.KernelIdeal.defs _ _).mono
      (fun _ h c => ⟨(h.1 c (5 : Fin 6)).trans ((finalA_out m g c).trans (hout c)), (h.1 c (0 : Fin 6)).trans (finalA_in0 m g c), (h.1 c (1 : Fin 6)).trans (finalA_in1 m g c),
        (h.1 c (2 : Fin 6)).trans (finalA_in2 m g c), (h.1 c (3 : Fin 6)).trans (finalA_in3 m g c), (h.1 c (4 : Fin 6)).trans (finalA_in4 m g c)⟩)
      (run_main (F := Ideal) m g),
    (θ_run Cert.ReferenceIdeal.defs _ _).mono (fun r h => h 0) (Cert.ReferenceIdeal.Value.run (F := Ideal) m' g')⟩

end Cert.Moe
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_admissible_KernelIdeal
public import proofs.«01_k».proof.Proof.Gen.Pre_admissible_ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- All five claims: the three frames, that the ideal program is the kernel, and that kernel and reference agree. -/
theorem claim : Cert.Claim := ⟨Cert.Kernel.Gen.facts, Cert.KernelIdeal.Gen.facts, Cert.ReferenceIdeal.Gen.facts,
  Cert.Pre_admissible_KernelIdeal.Gen.facts, Cert.Pre_admissible_ReferenceIdeal.Gen.facts,
  Cert.Moe.frame_kernel, Cert.Moe.frame_kernelIdeal, fun m ρ _ => Cert.Moe.frame_kernelIdeal m ρ trivial,
  Cert.Moe.frame_referenceIdeal, fun m ρ _ => Cert.Moe.frame_referenceIdeal m ρ trivial, trivial, Cert.Moe.algebraic⟩

end Cert.Proof

end
